-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_usable2 [hPre_usable2 : Cert.Pre_usable2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_usable2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_usable2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_usable2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_usable2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_usable2 [hPre_usable2 : Cert.Pre_usable2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_usable2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_usable2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_usable2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_usable2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_usable8 [hPre_usable8 : Cert.Pre_usable8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_usable8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_usable8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.1 = (fun _ => 1#1)
    ∧ (Cert.Pre_usable8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.1 = (fun _ => 1#1)
    ∧ (Cert.Pre_usable8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2.1 = (fun _ => 1#1)
    ∧ (Cert.Pre_usable8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_usable8 [hPre_usable8 : Cert.Pre_usable8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_usable8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_usable8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.1 = (fun _ => 1#1)
    ∧ (Cert.Pre_usable8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.1 = (fun _ => 1#1)
    ∧ (Cert.Pre_usable8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2.1 = (fun _ => 1#1)
    ∧ (Cert.Pre_usable8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_usable2 [hKernel2Ideal : Cert.Kernel2Ideal.Facts] [hPre_usable2 : Cert.Pre_usable2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_usable2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_usable2 [hReference2Ideal : Cert.Reference2Ideal.Facts] [hPre_usable2 : Cert.Pre_usable2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_usable2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_usable8 [hKernel8Ideal : Cert.Kernel8Ideal.Facts] [hPre_usable8 : Cert.Pre_usable8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_usable8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_usable8 [hReference8Ideal : Cert.Reference8Ideal.Facts] [hPre_usable8 : Cert.Pre_usable8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_usable8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def preserves_Kernel2_Kernel2Ideal : Prop :=
  True

def algebraic_Kernel2Ideal_Reference2Ideal_pre_usable2 [hKernel2Ideal : Cert.Kernel2Ideal.Facts] [hReference2Ideal : Cert.Reference2Ideal.Facts] [hPre_usable2 : Cert.Pre_usable2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_usable2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_usable8 [hKernel8Ideal : Cert.Kernel8Ideal.Facts] [hReference8Ideal : Cert.Reference8Ideal.Facts] [hPre_usable8 : Cert.Pre_usable8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_usable8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)) (v2 : (c : Dev Cert.Kernel8Ideal.nD) → Buf (Elt Ideal) ((c.tc : Thread Cert.Kernel8Ideal.nD Cert.Kernel8Ideal.τ).loc Cert.Kernel8Ideal.main_v8_2)) (v3 : (c : Dev Cert.Kernel8Ideal.nD) → Buf (Elt Ideal) ((c.tc : Thread Cert.Kernel8Ideal.nD Cert.Kernel8Ideal.τ).loc Cert.Kernel8Ideal.main_v8_3)) (v4 : (c : Dev Cert.Kernel8Ideal.nD) → Buf (Elt Ideal) ((c.tc : Thread Cert.Kernel8Ideal.nD Cert.Kernel8Ideal.τ).loc Cert.Kernel8Ideal.main_v8_4)) (v5 : (c : Dev Cert.Kernel8Ideal.nD) → Buf (Elt Ideal) ((c.tc : Thread Cert.Kernel8Ideal.nD Cert.Kernel8Ideal.τ).loc Cert.Kernel8Ideal.main_v8_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_v8_2) = v2 c
          ∧ r.2.mem ((c.tc : Thread Cert.Kernel8Ideal.nD Cert.Kernel8Ideal.τ).loc Cert.Kernel8Ideal.main_v8_3) = v3 c
          ∧ r.2.mem ((c.tc : Thread Cert.Kernel8Ideal.nD Cert.Kernel8Ideal.τ).loc Cert.Kernel8Ideal.main_v8_4) = v4 c
          ∧ r.2.mem ((c.tc : Thread Cert.Kernel8Ideal.nD Cert.Kernel8Ideal.τ).loc Cert.Kernel8Ideal.main_v8_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v67) = v0 c
          ∧ r.2.mem ((c.tc : Thread Cert.Reference8Ideal.nD Cert.Reference8Ideal.τ).loc Cert.Reference8Ideal.main_v69) = v1 c
          ∧ r.2.mem ((c.tc : Thread Cert.Reference8Ideal.nD Cert.Reference8Ideal.τ).loc Cert.Reference8Ideal.main_v71) = v2 c
          ∧ r.2.mem ((c.tc : Thread Cert.Reference8Ideal.nD Cert.Reference8Ideal.τ).loc Cert.Reference8Ideal.main_v73) = v3 c
          ∧ r.2.mem ((c.tc : Thread Cert.Reference8Ideal.nD Cert.Reference8Ideal.τ).loc Cert.Reference8Ideal.main_v74) = v4 c
          ∧ r.2.mem ((c.tc : Thread Cert.Reference8Ideal.nD Cert.Reference8Ideal.τ).loc Cert.Reference8Ideal.main_v64) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_usable2 : Cert.Pre_usable2.Facts) (hPre_usable8 : Cert.Pre_usable8.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_usable2 (hKernel2Ideal := hKernel2Ideal) (hPre_usable2 := hPre_usable2)
    ∧ quiescent_Reference2Ideal (hReference2Ideal := hReference2Ideal)
    ∧ quiescent_Reference2Ideal_pre_usable2 (hReference2Ideal := hReference2Ideal) (hPre_usable2 := hPre_usable2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_usable8 (hKernel8Ideal := hKernel8Ideal) (hPre_usable8 := hPre_usable8)
    ∧ quiescent_Reference8Ideal (hReference8Ideal := hReference8Ideal)
    ∧ quiescent_Reference8Ideal_pre_usable8 (hReference8Ideal := hReference8Ideal) (hPre_usable8 := hPre_usable8)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ preserves_Kernel2_Kernel2Ideal
    ∧ algebraic_Kernel2Ideal_Reference2Ideal_pre_usable2 (hKernel2Ideal := hKernel2Ideal) (hReference2Ideal := hReference2Ideal) (hPre_usable2 := hPre_usable2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_usable8 (hKernel8Ideal := hKernel8Ideal) (hReference8Ideal := hReference8Ideal) (hPre_usable8 := hPre_usable8)
    ∧ preserves_Kernel9_Kernel9Ideal
    ∧ algebraic_Kernel9Ideal_Reference9Ideal (hKernel9Ideal := hKernel9Ideal) (hReference9Ideal := hReference9Ideal)
-- ==== Pre_usable2.lean ====
abbrev S2x8192x1024 : Shape := ⟨3, ![2, 8192, 1024]⟩
abbrev S1024x5632 : Shape := ⟨2, ![1024, 5632]⟩
abbrev S3x5632 : Shape := ⟨2, ![3, 5632]⟩
abbrev S5632 : Shape := ⟨1, ![5632]⟩
abbrev S_ : Shape := ⟨0, ![]⟩

class Facts : Prop where
  bitsLt_bf16_f32 : FTy.bits .bf16 < FTy.bits .f32
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_

variable [Facts]

def fn_part1 {F : FTy → Type} [FloatOps F] (main_v4 : IVec S_ 1) (main_v8 : IVec S_ 1) (main_v12 : IVec S_ 1) (main_v15 : IVec S5632 1) (main_c_5 : IVec S_ 1) : IVec S_ 1 × IVec S_ 1 × IVec S_ 1 × IVec S_ 1 :=
  let main_v16 : IVec S_ 1 := (fun x v => Host.reduce IntOp.andi x v reducesTo_S5632_S_d0 h_S_) main_v15 main_c_5
  (main_v4, main_v8, main_v12, main_v16)

def fn {F : FTy → Type} [FloatOps F] (main_arg0 : FVec F S2x8192x1024 .bf16) (main_arg1 : FVec F S1024x5632 .f32) (main_arg2 : FVec F S3x5632 .f32) (main_arg3 : FVec F S5632 .f32) : IVec S_ 1 × IVec S_ 1 × IVec S_ 1 × IVec S_ 1 :=
  let main_v0 : FVec F S2x8192x1024 .f32 := (extf .f32 · bitsLt_bf16_f32) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_c : IVec S_ 1 := constantI S_ 1 1#1
  let main_v4 : IVec S_ 1 := (fun x v => Host.reduce IntOp.andi x v reducesTo_S2x8192x1024_S_d0_1_2 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : FVec F S3x5632 .f32 := Host.absf main_arg2
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_c_3 : IVec S_ 1 := constantI S_ 1 1#1
  let main_v12 : IVec S_ 1 := (fun x v => Host.reduce IntOp.andi x v reducesTo_S3x5632_S_d0_1 h_S_) main_v11 main_c_3
  let main_v13 : FVec F S5632 .f32 := Host.absf main_arg3
  let main_cst_4 : FVec F S_ .f32 := constant S_ .f32 0x7F800000#32
  let main_v14 : FVec F S5632 .f32 := broadcastInDim S5632 ![] bcast_S_S5632 main_cst_4
  let main_v15 : IVec S5632 1 := cmpf .olt main_v13 main_v14
  let main_c_5 : IVec S_ 1 := constantI S_ 1 1#1
  fn_part1 (F := F) main_v4 main_v8 main_v12 main_v15 main_c_5
-- ==== Pre_usable8.lean ====
abbrev S2x8192x1024 : Shape := ⟨3, ![2, 8192, 1024]⟩
abbrev S1x1024 : Shape := ⟨2, ![1, 1024]⟩
abbrev S2x1x1024 : Shape := ⟨3, ![2, 1, 1024]⟩
abbrev S1024x3656 : Shape := ⟨2, ![1024, 3656]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2x1x1024 : S_.BroadcastsInDim S2x1x1024 (![] : Fin 0 → Fin S2x1x1024.rank)
  reducesTo_S2x1x1024_S_d0_1_2 : S2x1x1024.ReducesTo [0, 1, 2] S_
  bcast_S_S1024x3656 : S_.BroadcastsInDim S1024x3656 (![] : Fin 0 → Fin S1024x3656.rank)
  reducesTo_S1024x3656_S_d0_1 : S1024x3656.ReducesTo [0, 1] S_

variable [Facts]

def fn_part1 {F : FTy → Type} [FloatOps F] (main_arg4 : FVec F S1024x3656 .f32) (main_v3 : IVec S_ 1) (main_v7 : IVec S_ 1) (main_v11 : IVec S_ 1) (main_v15 : IVec S_ 1) : IVec S_ 1 × IVec S_ 1 × IVec S_ 1 × IVec S_ 1 × IVec S_ 1 :=
  let main_v16 : FVec F S1024x3656 .f32 := Host.absf main_arg4
  let main_cst_6 : FVec F S_ .f32 := constant S_ .f32 0x7F800000#32
  let main_v17 : FVec F S1024x3656 .f32 := broadcastInDim S1024x3656 ![] bcast_S_S1024x3656 main_cst_6
  let main_v18 : IVec S1024x3656 1 := cmpf .olt main_v16 main_v17
  let main_c_7 : IVec S_ 1 := constantI S_ 1 1#1
  let main_v19 : IVec S_ 1 := (fun x v => Host.reduce IntOp.andi x v reducesTo_S1024x3656_S_d0_1 h_S_) main_v18 main_c_7
  (main_v3, main_v7, main_v11, main_v15, main_v19)

def fn {F : FTy → Type} [FloatOps F] (main_arg0 : FVec F S2x8192x1024 .f32) (main_arg1 : FVec F S1x1024 .f32) (main_arg2 : FVec F S2x1x1024 .f32) (main_arg3 : FVec F S2x1x1024 .f32) (main_arg4 : FVec F S1024x3656 .f32) : IVec S_ 1 × IVec S_ 1 × IVec S_ 1 × IVec S_ 1 × IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S2x1x1024 .f32 := Host.absf main_arg2
  let main_cst_2 : FVec F S_ .f32 := constant S_ .f32 0x7F800000#32
  let main_v9 : FVec F S2x1x1024 .f32 := broadcastInDim S2x1x1024 ![] bcast_S_S2x1x1024 main_cst_2
  let main_v10 : IVec S2x1x1024 1 := cmpf .olt main_v8 main_v9
  let main_c_3 : IVec S_ 1 := constantI S_ 1 1#1
  let main_v11 : IVec S_ 1 := (fun x v => Host.reduce IntOp.andi x v reducesTo_S2x1x1024_S_d0_1_2 h_S_) main_v10 main_c_3
  let main_v12 : FVec F S2x1x1024 .f32 := Host.absf main_arg3
  let main_cst_4 : FVec F S_ .f32 := constant S_ .f32 0x7F800000#32
  let main_v13 : FVec F S2x1x1024 .f32 := broadcastInDim S2x1x1024 ![] bcast_S_S2x1x1024 main_cst_4
  let main_v14 : IVec S2x1x1024 1 := cmpf .olt main_v12 main_v13
  let main_c_5 : IVec S_ 1 := constantI S_ 1 1#1
  let main_v15 : IVec S_ 1 := (fun x v => Host.reduce IntOp.andi x v reducesTo_S2x1x1024_S_d0_1_2 h_S_) main_v14 main_c_5
  fn_part1 (F := F) main_arg4 main_v3 main_v7 main_v11 main_v15
-- ==== Kernel.lean ====
abbrev S2x8192x1024 : Shape := ⟨3, ![2, 8192, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x16 : Shape := ⟨2, ![64, 16]⟩
abbrev S64x1 : Shape := ⟨2, ![64, 1]⟩
abbrev S_ : Shape := ⟨0, ![]⟩
abbrev S64x64x1 : Shape := ⟨3, ![64, 64, 1]⟩
abbrev S8x8 : Shape := ⟨2, ![8, 8]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1024x128 : Shape := ⟨3, ![8, 1024, 128]⟩
abbrev S8 : Shape := ⟨1, ![8]⟩
abbrev S3 : Shape := ⟨1, ![3]⟩
abbrev S1x64x64 : Shape := ⟨3, ![1, 64, 64]⟩
abbrev S1x64x1 : Shape := ⟨3, ![1, 64, 1]⟩
abbrev S3x1x1 : Shape := ⟨3, ![3, 1, 1]⟩
abbrev S3x64x64 : Shape := ⟨3, ![3, 64, 64]⟩
abbrev S3x1x64x64 : Shape := ⟨4, ![3, 1, 64, 64]⟩
abbrev S3x2x64x64 : Shape := ⟨4, ![3, 2, 64, 64]⟩
abbrev S3x2x8x512 : Shape := ⟨4, ![3, 2, 8, 512]⟩
abbrev S8x3x2x512 : Shape := ⟨4, ![8, 3, 2, 512]⟩
abbrev S8x3x2x1x512 : Shape := ⟨5, ![8, 3, 2, 1, 512]⟩
abbrev S8x3x2x8x512 : Shape := ⟨5, ![8, 3, 2, 8, 512]⟩
abbrev S1x8 : Shape := ⟨2, ![1, 8]⟩
abbrev S3x1 : Shape := ⟨2, ![3, 1]⟩
abbrev S3x8 : Shape := ⟨2, ![3, 8]⟩
abbrev S1x3x1x8x1 : Shape := ⟨5, ![1, 3, 1, 8, 1]⟩
abbrev S8x1x1 : Shape := ⟨3, ![8, 1, 1]⟩
abbrev S8x64x64 : Shape := ⟨3, ![8, 64, 64]⟩
abbrev S8x1x64x64 : Shape := ⟨4, ![8, 1, 64, 64]⟩
abbrev S8x2x64x64 : Shape := ⟨4, ![8, 2, 64, 64]⟩
abbrev S8x2x8x512 : Shape := ⟨4, ![8, 2, 8, 512]⟩
abbrev S8x8x2x512 : Shape := ⟨4, ![8, 8, 2, 512]⟩
abbrev S8x1x2x8x512 : Shape := ⟨5, ![8, 1, 2, 8, 512]⟩
abbrev S1 : Shape := ⟨1, ![1]⟩
abbrev S1x1x1 : Shape := ⟨3, ![1, 1, 1]⟩
abbrev S1x1x64x64 : Shape := ⟨4, ![1, 1, 64, 64]⟩
abbrev S1x2x64x64 : Shape := ⟨4, ![1, 2, 64, 64]⟩
abbrev S1x2x8x512 : Shape := ⟨4, ![1, 2, 8, 512]⟩
abbrev S8x1x2x512 : Shape := ⟨4, ![8, 1, 2, 512]⟩
abbrev S8x1x2x1x512 : Shape := ⟨5, ![8, 1, 2, 1, 512]⟩
abbrev S8x6x2x8x512 : Shape := ⟨5, ![8, 6, 2, 8, 512]⟩
abbrev S64x1x1 : Shape := ⟨3, ![64, 1, 1]⟩
abbrev S64x64x64 : Shape := ⟨3, ![64, 64, 64]⟩
abbrev S64x1x64x64 : Shape := ⟨4, ![64, 1, 64, 64]⟩
abbrev S64x2x64x64 : Shape := ⟨4, ![64, 2, 64, 64]⟩
abbrev S64x2x8x512 : Shape := ⟨4, ![64, 2, 8, 512]⟩
abbrev S8x64x2x512 : Shape := ⟨4, ![8, 64, 2, 512]⟩
abbrev S8x64x2x1x512 : Shape := ⟨5, ![8, 64, 2, 1, 512]⟩
abbrev S8x64x2x8x512 : Shape := ⟨5, ![8, 64, 2, 8, 512]⟩
abbrev S8x2x64x8x512 : Shape := ⟨5, ![8, 2, 64, 8, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x1x128 : Shape := ⟨3, ![8, 1, 128]⟩
abbrev S2x512x128 : Shape := ⟨3, ![2, 512, 128]⟩
abbrev S1x128x1024 : Shape := ⟨3, ![1, 128, 1024]⟩
abbrev S1x6x2x8x512 : Shape := ⟨5, ![1, 6, 2, 8, 512]⟩
abbrev S1x2x64x8x512 : Shape := ⟨5, ![1, 2, 64, 8, 512]⟩
abbrev S1x1024x128 : Shape := ⟨3, ![1, 1024, 128]⟩
abbrev S1x1x128 : Shape := ⟨3, ![1, 1, 128]⟩
abbrev S2x2x8x512 : Shape := ⟨4, ![2, 2, 8, 512]⟩
abbrev S1x512x128 : Shape := ⟨3, ![1, 512, 128]⟩
abbrev S512x128 : Shape := ⟨2, ![512, 128]⟩
abbrev S512x256 : Shape := ⟨2, ![512, 256]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S2x64x8x512 : Shape := ⟨4, ![2, 64, 8, 512]⟩
abbrev S1x1x1x8x512 : Shape := ⟨5, ![1, 1, 1, 8, 512]⟩
abbrev S8x512 : Shape := ⟨2, ![8, 512]⟩
abbrev S2x8x512 : Shape := ⟨3, ![2, 8, 512]⟩
abbrev S2x1x8x512 : Shape := ⟨4, ![2, 1, 8, 512]⟩
abbrev S1x8x512 : Shape := ⟨3, ![1, 8, 512]⟩
abbrev S2x1x512 : Shape := ⟨3, ![2, 1, 512]⟩
abbrev S1x1x64x8x512 : Shape := ⟨5, ![1, 1, 64, 8, 512]⟩
abbrev S64x8x512 : Shape := ⟨3, ![64, 8, 512]⟩
abbrev S1x64x8x512 : Shape := ⟨4, ![1, 64, 8, 512]⟩
abbrev S1x128 : Shape := ⟨2, ![1, 128]⟩

abbrev nBuf : Space → Nat
  | .hbm => 322
  | .vmem => 17
  | .smem => 0
  | _ => 0

abbrev hbmTy0_0 (i : Nat) : BufTy := match i % 128 with
  | 0 => ⟨S2x8192x1024, .f32⟩
  | 1 => ⟨S64x64, .f32⟩
  | 2 => ⟨S64x64, .f32⟩
  | 3 => ⟨S64, .f32⟩
  | 4 => ⟨S64x64x16, .f32⟩
  | 5 => ⟨S64x64x16, .f32⟩
  | 6 => ⟨S64x16x64, .f32⟩
  | 7 => ⟨S64x16x64, .f32⟩
  | 8 => ⟨S64x16, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S_, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S_, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64x1, .f32⟩
  | 40 => ⟨S64x64x16, .f32⟩
  | 41 => ⟨S64x64x16, .f32⟩
  | 42 => ⟨S64x64x1, .f32⟩
  | 43 => ⟨S64x64x16, .f32⟩
  | 44 => ⟨S64x64x16, .f32⟩
  | 45 => ⟨S64x64x16, .f32⟩
  | 46 => ⟨S64x64x1, .f32⟩
  | 47 => ⟨S64x64x16, .f32⟩
  | 48 => ⟨S64x64x16, .f32⟩
  | 49 => ⟨S64x64x1, .f32⟩
  | 50 => ⟨S64x64x16, .f32⟩
  | 51 => ⟨S64x64x16, .f32⟩
  | 52 => ⟨S64x64x16, .f32⟩
  | 53 => ⟨S8x8, .i32⟩
  | 54 => ⟨S8x8, .i32⟩
  | 55 => ⟨S_, .i32⟩
  | 56 => ⟨S8x8, .i32⟩
  | 57 => ⟨S8x8, .i32⟩
  | 58 => ⟨S8x8, .i1⟩
  | 59 => ⟨S8x8, .f32⟩
  | 60 => ⟨S8x8x64x16, .f32⟩
  | 61 => ⟨S8x8x16x64, .f32⟩
  | 62 => ⟨S8x8x16x1x64, .f32⟩
  | 63 => ⟨S1x8x1x8x1, .f32⟩
  | 64 => ⟨S8x8x16x8x64, .f32⟩
  | 65 => ⟨S8x8x16x8x64, .f32⟩
  | 66 => ⟨S8x8x16x8x64, .f32⟩
  | 67 => ⟨S8x128x512, .f32⟩
  | 68 => ⟨S8x8x64x16, .f32⟩
  | 69 => ⟨S8x8x16x64, .f32⟩
  | 70 => ⟨S8x8x16x1x64, .f32⟩
  | 71 => ⟨S1x8x1x8x1, .f32⟩
  | 72 => ⟨S8x8x16x8x64, .f32⟩
  | 73 => ⟨S8x8x16x8x64, .f32⟩
  | 74 => ⟨S8x8x16x8x64, .f32⟩
  | 75 => ⟨S8x128x512, .f32⟩
  | 76 => ⟨S8x128x1024, .f32⟩
  | 77 => ⟨S8x128x1024, .bf16⟩
  | 78 => ⟨S8x8x16x64, .f32⟩
  | 79 => ⟨S8x8x64x16, .f32⟩
  | 80 => ⟨S8x8x64x1x16, .f32⟩
  | 81 => ⟨S1x8x1x8x1, .f32⟩
  | 82 => ⟨S8x8x64x8x16, .f32⟩
  | 83 => ⟨S8x8x64x8x16, .f32⟩
  | 84 => ⟨S8x8x64x8x16, .f32⟩
  | 85 => ⟨S8x512x128, .f32⟩
  | 86 => ⟨S8x8x16x64, .f32⟩
  | 87 => ⟨S8x8x64x16, .f32⟩
  | 88 => ⟨S8x8x64x1x16, .f32⟩
  | 89 => ⟨S1x8x1x8x1, .f32⟩
  | 90 => ⟨S8x8x64x8x16, .f32⟩
  | 91 => ⟨S8x8x64x8x16, .f32⟩
  | 92 => ⟨S8x8x64x8x16, .f32⟩
  | 93 => ⟨S8x512x128, .f32⟩
  | 94 => ⟨S8x512x128, .f32⟩
  | 95 => ⟨S8x1024x128, .f32⟩
  | 96 => ⟨S8x1024x128, .bf16⟩
  | 97 => ⟨S8, .f32⟩
  | 98 => ⟨S3, .f32⟩
  | 99 => ⟨S_, .f32⟩
  | 100 => ⟨S3, .f32⟩
  | 101 => ⟨S3, .f32⟩
  | 102 => ⟨S_, .f32⟩
  | 103 => ⟨S3, .f32⟩
  | 104 => ⟨S3, .f32⟩
  | 105 => ⟨S1x64x64, .f32⟩
  | 106 => ⟨S1x64x1, .f32⟩
  | 107 => ⟨S1x64x64, .f32⟩
  | 108 => ⟨S1x64x64, .f32⟩
  | 109 => ⟨S3x1x1, .f32⟩
  | 110 => ⟨S3x64x64, .f32⟩
  | 111 => ⟨S3x64x64, .f32⟩
  | 112 => ⟨S3x64x64, .f32⟩
  | 113 => ⟨S1x64x64, .f32⟩
  | 114 => ⟨S1x64x1, .f32⟩
  | 115 => ⟨S1x64x64, .f32⟩
  | 116 => ⟨S1x64x64, .f32⟩
  | 117 => ⟨S3x1x1, .f32⟩
  | 118 => ⟨S3x64x64, .f32⟩
  | 119 => ⟨S3x64x64, .f32⟩
  | 120 => ⟨S3x64x64, .f32⟩
  | 121 => ⟨S3x64x64, .f32⟩
  | 122 => ⟨S3x64x64, .f32⟩
  | 123 => ⟨S3x64x64, .f32⟩
  | 124 => ⟨S3x64x64, .f32⟩
  | 125 => ⟨S3x64x64, .f32⟩
  | 126 => ⟨S3x1x64x64, .f32⟩
  | 127 => ⟨S3x1x64x64, .f32⟩
  | _ => ⟨S2x8192x1024, .f32⟩

abbrev hbmTy0_1 (i : Nat) : BufTy := match i % 128 with
  | 0 => ⟨S3x2x64x64, .f32⟩
  | 1 => ⟨S3x2x8x512, .f32⟩
  | 2 => ⟨S8x3x2x512, .f32⟩
  | 3 => ⟨S8x3x2x1x512, .f32⟩
  | 4 => ⟨S8x3x2x8x512, .f32⟩
  | 5 => ⟨S1x8, .f32⟩
  | 6 => ⟨S3, .f32⟩
  | 7 => ⟨S_, .f32⟩
  | 8 => ⟨S3, .f32⟩
  | 9 => ⟨S3, .f32⟩
  | 10 => ⟨S3x1, .f32⟩
  | 11 => ⟨S3x8, .f32⟩
  | 12 => ⟨S3x8, .f32⟩
  | 13 => ⟨S3x8, .i1⟩
  | 14 => ⟨S1x3x1x8x1, .i1⟩
  | 15 => ⟨S1x3x1x8x1, .f32⟩
  | 16 => ⟨S8x3x2x8x512, .f32⟩
  | 17 => ⟨S8x3x2x8x512, .f32⟩
  | 18 => ⟨S_, .f32⟩
  | 19 => ⟨S8, .f32⟩
  | 20 => ⟨S8, .f32⟩
  | 21 => ⟨S1x64x64, .f32⟩
  | 22 => ⟨S1x64x1, .f32⟩
  | 23 => ⟨S1x64x64, .f32⟩
  | 24 => ⟨S1x64x64, .f32⟩
  | 25 => ⟨S8x1x1, .f32⟩
  | 26 => ⟨S8x64x64, .f32⟩
  | 27 => ⟨S8x64x64, .f32⟩
  | 28 => ⟨S8x64x64, .f32⟩
  | 29 => ⟨S1x64x64, .f32⟩
  | 30 => ⟨S1x64x1, .f32⟩
  | 31 => ⟨S1x64x64, .f32⟩
  | 32 => ⟨S1x64x64, .f32⟩
  | 33 => ⟨S8x1x1, .f32⟩
  | 34 => ⟨S8x64x64, .f32⟩
  | 35 => ⟨S8x64x64, .f32⟩
  | 36 => ⟨S8x64x64, .f32⟩
  | 37 => ⟨S8x64x64, .f32⟩
  | 38 => ⟨S8x64x64, .f32⟩
  | 39 => ⟨S8x64x64, .f32⟩
  | 40 => ⟨S8x64x64, .f32⟩
  | 41 => ⟨S8x64x64, .f32⟩
  | 42 => ⟨S8x1x64x64, .f32⟩
  | 43 => ⟨S8x1x64x64, .f32⟩
  | 44 => ⟨S8x2x64x64, .f32⟩
  | 45 => ⟨S8x2x8x512, .f32⟩
  | 46 => ⟨S8x8x2x512, .f32⟩
  | 47 => ⟨S8x2x8x512, .f32⟩
  | 48 => ⟨S8x1x2x8x512, .f32⟩
  | 49 => ⟨S_, .f32⟩
  | 50 => ⟨S1, .f32⟩
  | 51 => ⟨S1x64x64, .f32⟩
  | 52 => ⟨S1x64x1, .f32⟩
  | 53 => ⟨S1x64x64, .f32⟩
  | 54 => ⟨S1x64x64, .f32⟩
  | 55 => ⟨S1x1x1, .f32⟩
  | 56 => ⟨S1x64x64, .f32⟩
  | 57 => ⟨S1x64x64, .f32⟩
  | 58 => ⟨S1x64x64, .f32⟩
  | 59 => ⟨S1x64x1, .f32⟩
  | 60 => ⟨S1x64x64, .f32⟩
  | 61 => ⟨S1x64x64, .f32⟩
  | 62 => ⟨S1x1x1, .f32⟩
  | 63 => ⟨S1x64x64, .f32⟩
  | 64 => ⟨S1x64x64, .f32⟩
  | 65 => ⟨S1x64x64, .f32⟩
  | 66 => ⟨S1x64x64, .f32⟩
  | 67 => ⟨S1x64x64, .f32⟩
  | 68 => ⟨S1x64x64, .f32⟩
  | 69 => ⟨S1x64x64, .f32⟩
  | 70 => ⟨S1x1x64x64, .f32⟩
  | 71 => ⟨S1x1x64x64, .f32⟩
  | 72 => ⟨S1x2x64x64, .f32⟩
  | 73 => ⟨S1x2x8x512, .f32⟩
  | 74 => ⟨S8x1x2x512, .f32⟩
  | 75 => ⟨S8x1x2x1x512, .f32⟩
  | 76 => ⟨S8x1x2x8x512, .f32⟩
  | 77 => ⟨S_, .f32⟩
  | 78 => ⟨S1, .f32⟩
  | 79 => ⟨S1x64x64, .f32⟩
  | 80 => ⟨S1x64x1, .f32⟩
  | 81 => ⟨S1x64x64, .f32⟩
  | 82 => ⟨S1x64x64, .f32⟩
  | 83 => ⟨S1x1x1, .f32⟩
  | 84 => ⟨S1x64x64, .f32⟩
  | 85 => ⟨S1x64x64, .f32⟩
  | 86 => ⟨S1x64x64, .f32⟩
  | 87 => ⟨S1x64x1, .f32⟩
  | 88 => ⟨S1x64x64, .f32⟩
  | 89 => ⟨S1x64x64, .f32⟩
  | 90 => ⟨S1x1x1, .f32⟩
  | 91 => ⟨S1x64x64, .f32⟩
  | 92 => ⟨S1x64x64, .f32⟩
  | 93 => ⟨S1x64x64, .f32⟩
  | 94 => ⟨S1x64x64, .f32⟩
  | 95 => ⟨S1x64x64, .f32⟩
  | 96 => ⟨S1x64x64, .f32⟩
  | 97 => ⟨S1x64x64, .f32⟩
  | 98 => ⟨S1x1x64x64, .f32⟩
  | 99 => ⟨S1x1x64x64, .f32⟩
  | 100 => ⟨S1x2x64x64, .f32⟩
  | 101 => ⟨S1x2x8x512, .f32⟩
  | 102 => ⟨S8x1x2x512, .f32⟩
  | 103 => ⟨S8x1x2x1x512, .f32⟩
  | 104 => ⟨S8x1x2x8x512, .f32⟩
  | 105 => ⟨S8x6x2x8x512, .f32⟩
  | 106 => ⟨S64, .f32⟩
  | 107 => ⟨S_, .f32⟩
  | 108 => ⟨S64, .f32⟩
  | 109 => ⟨S64, .f32⟩
  | 110 => ⟨S1x64x64, .f32⟩
  | 111 => ⟨S1x64x1, .f32⟩
  | 112 => ⟨S1x64x64, .f32⟩
  | 113 => ⟨S1x64x64, .f32⟩
  | 114 => ⟨S64x1x1, .f32⟩
  | 115 => ⟨S64x64x64, .f32⟩
  | 116 => ⟨S64x64x64, .f32⟩
  | 117 => ⟨S64x64x64, .f32⟩
  | 118 => ⟨S1x64x64, .f32⟩
  | 119 => ⟨S1x64x1, .f32⟩
  | 120 => ⟨S1x64x64, .f32⟩
  | 121 => ⟨S1x64x64, .f32⟩
  | 122 => ⟨S64x1x1, .f32⟩
  | 123 => ⟨S64x64x64, .f32⟩
  | 124 => ⟨S64x64x64, .f32⟩
  | 125 => ⟨S64x64x64, .f32⟩
  | 126 => ⟨S64x64x64, .f32⟩
  | 127 => ⟨S64x64x64, .f32⟩
  | _ => ⟨S2x8192x1024, .f32⟩

abbrev hbmTy0_2 (i : Nat) : BufTy := match i % 128 with
  | 0 => ⟨S64x64x64, .f32⟩
  | 1 => ⟨S64x64x64, .f32⟩
  | 2 => ⟨S64x64x64, .f32⟩
  | 3 => ⟨S64x1x64x64, .f32⟩
  | 4 => ⟨S64x1x64x64, .f32⟩
  | 5 => ⟨S64x2x64x64, .f32⟩
  | 6 => ⟨S64x2x8x512, .f32⟩
  | 7 => ⟨S8x64x2x512, .f32⟩
  | 8 => ⟨S8x64x2x1x512, .f32⟩
  | 9 => ⟨S8x64x2x8x512, .f32⟩
  | 10 => ⟨S8x2x64x8x512, .f32⟩
  | 11 => ⟨S512, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S512, .i32⟩
  | 19 => ⟨S512, .i32⟩
  | 20 => ⟨S_, .i32⟩
  | 21 => ⟨S512, .i32⟩
  | 22 => ⟨S512, .i1⟩
  | 23 => ⟨S_, .i32⟩
  | 24 => ⟨S512, .i32⟩
  | 25 => ⟨S512, .i1⟩
  | 26 => ⟨S_, .i32⟩
  | 27 => ⟨S_, .i1⟩
  | 28 => ⟨S512, .i1⟩
  | 29 => ⟨S512, .i1⟩
  | 30 => ⟨S512, .i1⟩
  | 31 => ⟨S512, .i32⟩
  | 32 => ⟨S512, .i32⟩
  | 33 => ⟨S512, .i32⟩
  | 34 => ⟨S_, .i32⟩
  | 35 => ⟨S512, .i32⟩
  | 36 => ⟨S512, .i32⟩
  | 37 => ⟨S_, .i32⟩
  | 38 => ⟨S_, .i32⟩
  | 39 => ⟨S512, .i32⟩
  | 40 => ⟨S512, .i32⟩
  | 41 => ⟨S512, .i32⟩
  | 42 => ⟨S_, .i32⟩
  | 43 => ⟨S512, .i32⟩
  | 44 => ⟨S512, .i1⟩
  | 45 => ⟨S512, .i32⟩
  | 46 => ⟨S512, .i32⟩
  | 47 => ⟨S_, .i32⟩
  | 48 => ⟨S512, .i32⟩
  | 49 => ⟨S512, .i1⟩
  | 50 => ⟨S512, .i1⟩
  | 51 => ⟨S_, .i32⟩
  | 52 => ⟨S512, .i32⟩
  | 53 => ⟨S512, .i32⟩
  | 54 => ⟨S512, .i32⟩
  | 55 => ⟨S512, .i32⟩
  | 56 => ⟨S512x1, .i32⟩
  | 57 => ⟨S512, .i32⟩
  | 58 => ⟨S1x512, .i32⟩
  | 59 => ⟨S512x512, .i32⟩
  | 60 => ⟨S512x512, .i32⟩
  | 61 => ⟨S512x512, .i1⟩
  | 62 => ⟨S512x512, .bf16⟩
  | 63 => ⟨S8x1x128, .f32⟩
  | 64 => ⟨S512x512, .bf16⟩
  | 65 => ⟨S2x8192x1024, .bf16⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | .local _ .vmem, ⟨0, _⟩ => ⟨S2x512x128, .f32⟩
  | .local _ .vmem, ⟨1, _⟩ => ⟨S2x512x128, .f32⟩
  | .local _ .vmem, ⟨2, _⟩ => ⟨S512x512, .bf16⟩
  | .local _ .vmem, ⟨3, _⟩ => ⟨S512x512, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x6x2x8x512, .f32⟩
  | .local _ .vmem, ⟨7, _⟩ => ⟨S1x6x2x8x512, .f32⟩
  | .local _ .vmem, ⟨8, _⟩ => ⟨S1x2x64x8x512, .f32⟩
  | .local _ .vmem, ⟨9, _⟩ => ⟨S1x2x64x8x512, .f32⟩
  | .local _ .vmem, ⟨10, _⟩ => ⟨S1x1024x128, .bf16⟩
  | .local _ .vmem, ⟨11, _⟩ => ⟨S1x1024x128, .bf16⟩
  | .local _ .vmem, ⟨12, _⟩ => ⟨S1x1x128, .f32⟩
  | .local _ .vmem, ⟨13, _⟩ => ⟨S1x1x128, .f32⟩
  | .local _ .vmem, ⟨14, _⟩ => ⟨S2x512x128, .bf16⟩
  | .local _ .vmem, ⟨15, _⟩ => ⟨S2x512x128, .bf16⟩
  | .local _ .vmem, ⟨16, _⟩ => ⟨S2x2x8x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_cst_1 : Ref sig .tc := ⟨.hbm, 99, rfl⟩
abbrev main_v87 : Ref sig .tc := ⟨.hbm, 100, rfl⟩
abbrev main_v88 : Ref sig .tc := ⟨.hbm, 101, rfl⟩
abbrev main_cst_2 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_cst_3 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_cst_4 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_cst_5 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_cst_6 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_cst_7 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_c_8 : Ref sig .tc := ⟨.hbm, 268, rfl⟩
abbrev main_call0_v0 : Ref sig .tc := ⟨.hbm, 269, rfl⟩
abbrev main_call0_c : Ref sig .tc := ⟨.hbm, 270, rfl⟩
abbrev main_call0_v1 : Ref sig .tc := ⟨.hbm, 271, rfl⟩
abbrev main_call0_c_0 : Ref sig .tc := ⟨.hbm, 272, rfl⟩
abbrev main_call0_v2 : Ref sig .tc := ⟨.hbm, 273, rfl⟩
abbrev main_call0_v3 : Ref sig .tc := ⟨.hbm, 274, rfl⟩
abbrev main_call0_v4 : Ref sig .tc := ⟨.hbm, 275, rfl⟩
abbrev main_call0_c_1 : Ref sig .tc := ⟨.hbm, 276, rfl⟩
abbrev main_call0_v5 : Ref sig .tc := ⟨.hbm, 277, rfl⟩
abbrev main_call0_v6 : Ref sig .tc := ⟨.hbm, 278, rfl⟩
abbrev main_call0_c_2 : Ref sig .tc := ⟨.hbm, 279, rfl⟩
abbrev main_call0_v7 : Ref sig .tc := ⟨.hbm, 280, rfl⟩
abbrev main_call0_v8 : Ref sig .tc := ⟨.hbm, 281, rfl⟩
abbrev main_call0_c_3 : Ref sig .tc := ⟨.hbm, 282, rfl⟩
abbrev main_call0_v9 : Ref sig .tc := ⟨.hbm, 283, rfl⟩
abbrev main_call0_v10 : Ref sig .tc := ⟨.hbm, 284, rfl⟩
abbrev main_call0_v11 : Ref sig .tc := ⟨.hbm, 285, rfl⟩
abbrev main_call0_v12 : Ref sig .tc := ⟨.hbm, 286, rfl⟩
abbrev main_call0_v13 : Ref sig .tc := ⟨.hbm, 287, rfl⟩
abbrev main_call0_v14 : Ref sig .tc := ⟨.hbm, 288, rfl⟩
abbrev main_v249 : Ref sig .tc := ⟨.hbm, 289, rfl⟩
abbrev main_c_9 : Ref sig .tc := ⟨.hbm, 290, rfl⟩
abbrev main_v250 : Ref sig .tc := ⟨.hbm, 291, rfl⟩
abbrev main_v251 : Ref sig .tc := ⟨.hbm, 292, rfl⟩
abbrev main_c_10 : Ref sig .tc := ⟨.hbm, 293, rfl⟩
abbrev main_call1_v0 : Ref sig .tc := ⟨.hbm, 294, rfl⟩
abbrev main_call1_v1 : Ref sig .tc := ⟨.hbm, 295, rfl⟩
abbrev main_call1_v2 : Ref sig .tc := ⟨.hbm, 296, rfl⟩
abbrev main_call1_v3 : Ref sig .tc := ⟨.hbm, 297, rfl⟩
abbrev main_call1_v4 : Ref sig .tc := ⟨.hbm, 298, rfl⟩
abbrev main_call1_v5 : Ref sig .tc := ⟨.hbm, 299, rfl⟩
abbrev main_call1_v6 : Ref sig .tc := ⟨.hbm, 300, rfl⟩
abbrev main_call1_v7 : Ref sig .tc := ⟨.hbm, 301, rfl⟩
abbrev main_call1_v8 : Ref sig .tc := ⟨.hbm, 302, rfl⟩
abbrev main_call1_c : Ref sig .tc := ⟨.hbm, 303, rfl⟩
abbrev main_call1_v9 : Ref sig .tc := ⟨.hbm, 304, rfl⟩
abbrev main_call1_v10 : Ref sig .tc := ⟨.hbm, 305, rfl⟩
abbrev main_call1_v11 : Ref sig .tc := ⟨.hbm, 306, rfl⟩
abbrev main_call1_c_0 : Ref sig .tc := ⟨.hbm, 307, rfl⟩
abbrev main_call1_v12 : Ref sig .tc := ⟨.hbm, 308, rfl⟩
abbrev main_call1_v13 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S2x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x6x2x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x64x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x8192x1024 : Shape := ⟨3, ![2, 8192, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x16 : Shape := ⟨2, ![64, 16]⟩
abbrev S2x8192x64x16 : Shape := ⟨4, ![2, 8192, 64, 16]⟩
abbrev S64x1 : Shape := ⟨2, ![64, 1]⟩
abbrev S_ : Shape := ⟨0, ![]⟩
abbrev S64x64x1 : Shape := ⟨3, ![64, 64, 1]⟩
abbrev S64x64x2x8192 : Shape := ⟨4, ![64, 64, 2, 8192]⟩
abbrev S8192x2x64x64 : Shape := ⟨4, ![8192, 2, 64, 64]⟩
abbrev S2x64x64 : Shape := ⟨3, ![2, 64, 64]⟩
abbrev S1x2x64x64 : Shape := ⟨4, ![1, 2, 64, 64]⟩
abbrev S1x64x64 : Shape := ⟨3, ![1, 64, 64]⟩
abbrev S64x16x8192x2 : Shape := ⟨4, ![64, 16, 8192, 2]⟩
abbrev S1x1x64x16 : Shape := ⟨4, ![1, 1, 64, 16]⟩

abbrev nBuf : Space → Nat
  | .hbm => 142
  | .vmem => 0
  | .smem => 0
  | _ => 0

abbrev hbmTy0_0 (i : Nat) : BufTy := match i % 128 with
  | 0 => ⟨S2x8192x1024, .f32⟩
  | 1 => ⟨S64x64, .f32⟩
  | 2 => ⟨S64x64, .f32⟩
  | 3 => ⟨S64, .f32⟩
  | 4 => ⟨S64x64x16, .f32⟩
  | 5 => ⟨S64x64x16, .f32⟩
  | 6 => ⟨S64x16x64, .f32⟩
  | 7 => ⟨S64x16x64, .f32⟩
  | 8 => ⟨S64x16, .f32⟩
  | 9 => ⟨S2x8192x64x16, .f32⟩
  | 10 => ⟨S64, .f32⟩
  | 11 => ⟨S64x1, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S_, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S_, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64x1, .f32⟩
  | 41 => ⟨S64x64x16, .f32⟩
  | 42 => ⟨S64x64x16, .f32⟩
  | 43 => ⟨S64x64x1, .f32⟩
  | 44 => ⟨S64x64x16, .f32⟩
  | 45 => ⟨S64x64x16, .f32⟩
  | 46 => ⟨S64x64x16, .f32⟩
  | 47 => ⟨S64x64x1, .f32⟩
  | 48 => ⟨S64x64x16, .f32⟩
  | 49 => ⟨S64x64x16, .f32⟩
  | 50 => ⟨S64x64x1, .f32⟩
  | 51 => ⟨S64x64x16, .f32⟩
  | 52 => ⟨S64x64x16, .f32⟩
  | 53 => ⟨S64x64x16, .f32⟩
  | 54 => ⟨S64x64x2x8192, .f32⟩
  | 55 => ⟨S8192x2x64x64, .f32⟩
  | 56 => ⟨S64x64x2x8192, .f32⟩
  | 57 => ⟨S8192x2x64x64, .f32⟩
  | 58 => ⟨S_, .f32⟩
  | 59 => ⟨S2x64x64, .f32⟩
  | 60 => ⟨S_, .f32⟩
  | 61 => ⟨S8192x2x64x64, .f32⟩
  | 62 => ⟨S_, .f32⟩
  | 63 => ⟨S8192x2x64x64, .f32⟩
  | 64 => ⟨S_, .i32⟩
  | 65 => ⟨S8192x2x64x64, .f32⟩
  | 66 => ⟨S8192x2x64x64, .f32⟩
  | 67 => ⟨S64x64, .f32⟩
  | 68 => ⟨S64x64, .f32⟩
  | 69 => ⟨S_, .i32⟩
  | 70 => ⟨S2x64x64, .f32⟩
  | 71 => ⟨S2x64x64, .f32⟩
  | 72 => ⟨S8192x2x64x64, .f32⟩
  | 73 => ⟨S8192x2x64x64, .f32⟩
  | 74 => ⟨S_, .i32⟩
  | 75 => ⟨S_, .i1⟩
  | 76 => ⟨S_, .i32⟩
  | 77 => ⟨S_, .i32⟩
  | 78 => ⟨S_, .i32⟩
  | 79 => ⟨S1x2x64x64, .f32⟩
  | 80 => ⟨S2x64x64, .f32⟩
  | 81 => ⟨S_, .i32⟩
  | 82 => ⟨S_, .i32⟩
  | 83 => ⟨S_, .i32⟩
  | 84 => ⟨S1x2x64x64, .f32⟩
  | 85 => ⟨S2x64x64, .f32⟩
  | 86 => ⟨S1x64x64, .f32⟩
  | 87 => ⟨S2x64x64, .f32⟩
  | 88 => ⟨S2x64x64, .f32⟩
  | 89 => ⟨S1x64x64, .f32⟩
  | 90 => ⟨S2x64x64, .f32⟩
  | 91 => ⟨S2x64x64, .f32⟩
  | 92 => ⟨S2x64x64, .f32⟩
  | 93 => ⟨S2x64x64, .f32⟩
  | 94 => ⟨S1x64x64, .f32⟩
  | 95 => ⟨S2x64x64, .f32⟩
  | 96 => ⟨S2x64x64, .f32⟩
  | 97 => ⟨S1x64x64, .f32⟩
  | 98 => ⟨S2x64x64, .f32⟩
  | 99 => ⟨S2x64x64, .f32⟩
  | 100 => ⟨S2x64x64, .f32⟩
  | 101 => ⟨S2x64x64, .f32⟩
  | 102 => ⟨S1x2x64x64, .f32⟩
  | 103 => ⟨S_, .i32⟩
  | 104 => ⟨S_, .i32⟩
  | 105 => ⟨S_, .i32⟩
  | 106 => ⟨S8192x2x64x64, .f32⟩
  | 107 => ⟨S1x2x64x64, .f32⟩
  | 108 => ⟨S_, .i32⟩
  | 109 => ⟨S_, .i32⟩
  | 110 => ⟨S_, .i32⟩
  | 111 => ⟨S8192x2x64x64, .f32⟩
  | 112 => ⟨S_, .i32⟩
  | 113 => ⟨S_, .i32⟩
  | 114 => ⟨S64x16x8192x2, .f32⟩
  | 115 => ⟨S2x8192x64x16, .f32⟩
  | 116 => ⟨S64x16x8192x2, .f32⟩
  | 117 => ⟨S2x8192x64x16, .f32⟩
  | 118 => ⟨S2x8192x64x16, .f32⟩
  | 119 => ⟨S1x1x64x16, .f32⟩
  | 120 => ⟨S2x8192x64x16, .f32⟩
  | 121 => ⟨S2x8192x64x16, .f32⟩
  | 122 => ⟨S2x8192x64x16, .f32⟩
  | 123 => ⟨S2x8192x1024, .f32⟩
  | 124 => ⟨S2x8192x1024, .f32⟩
  | 125 => ⟨S2x8192x1024, .f32⟩
  | 126 => ⟨S_, .f32⟩
  | 127 => ⟨S2x8192x1024, .f32⟩
  | _ => ⟨S2x8192x1024, .f32⟩

abbrev hbmTy0_1 (i : Nat) : BufTy := match i % 128 with
  | 0 => ⟨S2x8192x1024, .f32⟩
  | 1 => ⟨S2x8192x1024, .f32⟩
  | 2 => ⟨S_, .f32⟩
  | 3 => ⟨S2x8192x1024, .f32⟩
  | 4 => ⟨S2x8192x1024, .f32⟩
  | 5 => ⟨S2x8192x1024, .f32⟩
  | 6 => ⟨S_, .f32⟩
  | 7 => ⟨S2x8192x1024, .f32⟩
  | 8 => ⟨S2x8192x1024, .f32⟩
  | 9 => ⟨S_, .f32⟩
  | 10 => ⟨S2x8192x1024, .f32⟩
  | 11 => ⟨S2x8192x1024, .f32⟩
  | 12 => ⟨S2x8192x1024, .f32⟩
  | 13 => ⟨S2x8192x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_1 : Ref sig .tc := ⟨.hbm, 58, rfl⟩
abbrev main_v47 : Ref sig .tc := ⟨.hbm, 59, rfl⟩
abbrev main_cst_2 : Ref sig .tc := ⟨.hbm, 60, rfl⟩
abbrev main_v48 : Ref sig .tc := ⟨.hbm, 61, rfl⟩
abbrev main_cst_3 : Ref sig .tc := ⟨.hbm, 62, rfl⟩
abbrev main_v49 : Ref sig .tc := ⟨.hbm, 63, rfl⟩
abbrev main_c : Ref sig .tc := ⟨.hbm, 64, rfl⟩
abbrev main_v50_0 : Ref sig .tc := ⟨.hbm, 65, rfl⟩
abbrev main_v50_1 : Ref sig .tc := ⟨.hbm, 66, rfl⟩
abbrev main_v50_2 : Ref sig .tc := ⟨.hbm, 67, rfl⟩
abbrev main_v50_3 : Ref sig .tc := ⟨.hbm, 68, rfl⟩
abbrev main_v50_4 : Ref sig .tc := ⟨.hbm, 69, rfl⟩
abbrev main_v50_5 : Ref sig .tc := ⟨.hbm, 70, rfl⟩
abbrev main_v50_6 : Ref sig .tc := ⟨.hbm, 71, rfl⟩
abbrev main_v50_7 : Ref sig .tc := ⟨.hbm, 72, rfl⟩
abbrev main_v50_8 : Ref sig .tc := ⟨.hbm, 73, rfl⟩
abbrev main_while0c_c_16 : Ref sig .tc := ⟨.hbm, 74, rfl⟩
abbrev main_while0c_v75 : Ref sig .tc := ⟨.hbm, 75, rfl⟩
abbrev main_while0b_call0_c : Ref sig .tc := ⟨.hbm, 76, rfl⟩
abbrev main_while0b_call0_c_0 : Ref sig .tc := ⟨.hbm, 77, rfl⟩
abbrev main_while0b_call0_c_1 : Ref sig .tc := ⟨.hbm, 78, rfl⟩
abbrev main_while0b_call0_v0 : Ref sig .tc := ⟨.hbm, 79, rfl⟩
abbrev main_while0b_v75 : Ref sig .tc := ⟨.hbm, 80, rfl⟩
abbrev main_while0b_call1_c : Ref sig .tc := ⟨.hbm, 81, rfl⟩
abbrev main_while0b_call1_c_0 : Ref sig .tc := ⟨.hbm, 82, rfl⟩
abbrev main_while0b_call1_c_1 : Ref sig .tc := ⟨.hbm, 83, rfl⟩
abbrev main_while0b_call1_v0 : Ref sig .tc := ⟨.hbm, 84, rfl⟩
abbrev main_while0b_v76 : Ref sig .tc := ⟨.hbm, 85, rfl⟩
abbrev main_while0b_v77 : Ref sig .tc := ⟨.hbm, 86, rfl⟩
abbrev main_while0b_v78 : Ref sig .tc := ⟨.hbm, 87, rfl⟩
abbrev main_while0b_v79 : Ref sig .tc := ⟨.hbm, 88, rfl⟩
abbrev main_while0b_v80 : Ref sig .tc := ⟨.hbm, 89, rfl⟩
abbrev main_while0b_v81 : Ref sig .tc := ⟨.hbm, 90, rfl⟩
abbrev main_while0b_v82 : Ref sig .tc := ⟨.hbm, 91, rfl⟩
abbrev main_while0b_v83 : Ref sig .tc := ⟨.hbm, 92, rfl⟩
abbrev main_while0b_v84 : Ref sig .tc := ⟨.hbm, 93, rfl⟩
abbrev main_while0b_v85 : Ref sig .tc := ⟨.hbm, 94, rfl⟩
abbrev main_while0b_v86 : Ref sig .tc := ⟨.hbm, 95, rfl⟩
abbrev main_while0b_v87 : Ref sig .tc := ⟨.hbm, 96, rfl⟩
abbrev main_while0b_v88 : Ref sig .tc := ⟨.hbm, 97, rfl⟩
abbrev main_while0b_v89 : Ref sig .tc := ⟨.hbm, 98, rfl⟩
abbrev main_while0b_v90 : Ref sig .tc := ⟨.hbm, 99, rfl⟩
abbrev main_while0b_v91 : Ref sig .tc := ⟨.hbm, 100, rfl⟩
abbrev main_while0b_v92 : Ref sig .tc := ⟨.hbm, 101, rfl⟩
abbrev main_while0b_call2_v0 : Ref sig .tc := ⟨.hbm, 102, rfl⟩
abbrev main_while0b_call2_c : Ref sig .tc := ⟨.hbm, 103, rfl⟩
abbrev main_while0b_call2_c_0 : Ref sig .tc := ⟨.hbm, 104, rfl⟩
abbrev main_while0b_call2_c_1 : Ref sig .tc := ⟨.hbm, 105, rfl⟩
abbrev main_while0b_v93 : Ref sig .tc := ⟨.hbm, 106, rfl⟩
abbrev main_while0b_call3_v0 : Ref sig .tc := ⟨.hbm, 107, rfl⟩
abbrev main_while0b_call3_c : Ref sig .tc := ⟨.hbm, 108, rfl⟩
abbrev main_while0b_call3_c_0 : Ref sig .tc := ⟨.hbm, 109, rfl⟩
abbrev main_while0b_call3_c_1 : Ref sig .tc := ⟨.hbm, 110, rfl⟩
abbrev main_while0b_v94 : Ref sig .tc := ⟨.hbm, 111, rfl⟩
abbrev main_while0b_c_16 : Ref sig .tc := ⟨.hbm, 112, rfl⟩
abbrev main_while0b_v95 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_cst_4 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_5 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_cst_6 : Ref sig .tc := ⟨.hbm, 134, rfl⟩
abbrev main_v69 : Ref sig .tc := ⟨.hbm, 135, rfl⟩
abbrev main_v70 : Ref sig .tc := ⟨.hbm, 136, rfl⟩
abbrev main_cst_7 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S2x8192x1024 : Shape := ⟨3, ![2, 8192, 1024]⟩
abbrev S1024x5632 : Shape := ⟨2, ![1024, 5632]⟩
abbrev S3x5632 : Shape := ⟨2, ![3, 5632]⟩
abbrev S5632 : Shape := ⟨1, ![5632]⟩
abbrev S1024x2816 : Shape := ⟨2, ![1024, 2816]⟩
abbrev S3x2816 : Shape := ⟨2, ![3, 2816]⟩
abbrev S_ : Shape := ⟨0, ![]⟩
abbrev S8x2816 : Shape := ⟨2, ![8, 2816]⟩
abbrev S2816 : Shape := ⟨1, ![2816]⟩
abbrev S1x2816 : Shape := ⟨2, ![1, 2816]⟩
abbrev S2x8192x2816 : Shape := ⟨3, ![2, 8192, 2816]⟩
abbrev S1x1024x1024 : Shape := ⟨3, ![1, 1024, 1024]⟩
abbrev S1024x1408 : Shape := ⟨2, ![1024, 1408]⟩
abbrev S8x1408 : Shape := ⟨2, ![8, 1408]⟩
abbrev S1x1408 : Shape := ⟨2, ![1, 1408]⟩
abbrev S1x1024x1408 : Shape := ⟨3, ![1, 1024, 1408]⟩
abbrev S1024x1024 : Shape := ⟨2, ![1024, 1024]⟩
abbrev S128x8x1408 : Shape := ⟨3, ![128, 8, 1408]⟩
abbrev S1x8x1408 : Shape := ⟨3, ![1, 8, 1408]⟩
abbrev S129x8x1408 : Shape := ⟨3, ![129, 8, 1408]⟩
abbrev S1x1x1408 : Shape := ⟨3, ![1, 1, 1408]⟩

abbrev nBuf : Space → Nat
  | .hbm => 21
  | .vmem => 18
  | .smem => 0
  | _ => 0

abbrev bufTy : (tb : Table) → Fin (tcTables nBuf tb) → BufTy
  | .hbm, ⟨0, _⟩ => ⟨S2x8192x1024, .bf16⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S1024x2816, .f32⟩
  | .hbm, ⟨5, _⟩ => ⟨S1024x2816, .bf16⟩
  | .hbm, ⟨6, _⟩ => ⟨S1024x2816, .f32⟩
  | .hbm, ⟨7, _⟩ => ⟨S1024x2816, .bf16⟩
  | .hbm, ⟨8, _⟩ => ⟨S3x2816, .f32⟩
  | .hbm, ⟨9, _⟩ => ⟨S_, .i32⟩
  | .hbm, ⟨10, _⟩ => ⟨S_, .f32⟩
  | .hbm, ⟨11, _⟩ => ⟨S8x2816, .f32⟩
  | .hbm, ⟨12, _⟩ => ⟨S3x2816, .f32⟩
  | .hbm, ⟨13, _⟩ => ⟨S_, .i32⟩
  | .hbm, ⟨14, _⟩ => ⟨S_, .f32⟩
  | .hbm, ⟨15, _⟩ => ⟨S8x2816, .f32⟩
  | .hbm, ⟨16, _⟩ => ⟨S2816, .f32⟩
  | .hbm, ⟨17, _⟩ => ⟨S1x2816, .f32⟩
  | .hbm, ⟨18, _⟩ => ⟨S2816, .f32⟩
  | .hbm, ⟨19, _⟩ => ⟨S1x2816, .f32⟩
  | .hbm, ⟨20, _⟩ => ⟨S2x8192x2816, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S8x1408, .f32⟩
  | .local _ .vmem, ⟨7, _⟩ => ⟨S8x1408, .f32⟩
  | .local _ .vmem, ⟨8, _⟩ => ⟨S8x1408, .f32⟩
  | .local _ .vmem, ⟨9, _⟩ => ⟨S8x1408, .f32⟩
  | .local _ .vmem, ⟨10, _⟩ => ⟨S1x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S1x1024x1408, .bf16⟩
  | .local _ .vmem, ⟨15, _⟩ => ⟨S1x1024x1408, .bf16⟩
  | .local _ .vmem, ⟨16, _⟩ => ⟨S8x1408, .f32⟩
  | .local _ .vmem, ⟨17, _⟩ => ⟨S8x1408, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference2Ideal.lean ====
abbrev S2x8192x1024 : Shape := ⟨3, ![2, 8192, 1024]⟩
abbrev S1024x5632 : Shape := ⟨2, ![1024, 5632]⟩
abbrev S3x5632 : Shape := ⟨2, ![3, 5632]⟩
abbrev S5632 : Shape := ⟨1, ![5632]⟩
abbrev S2x8192x5632 : Shape := ⟨3, ![2, 8192, 5632]⟩
abbrev S_ : Shape := ⟨0, ![]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2x8192x1024, .f32⟩
  | .hbm, ⟨5, _⟩ => ⟨S2x8192x5632, .f32⟩
  | .hbm, ⟨6, _⟩ => ⟨S_, .i32⟩
  | .hbm, ⟨7, _⟩ => ⟨S_, .f32⟩
  | .hbm, ⟨8, _⟩ => ⟨S2x8194x5632, .f32⟩
  | .hbm, ⟨9, _⟩ => ⟨S1x5632, .f32⟩
  | .hbm, ⟨10, _⟩ => ⟨S5632, .f32⟩
  | .hbm, ⟨11, _⟩ => ⟨S2x8192x5632, .f32⟩
  | .hbm, ⟨12, _⟩ => ⟨S1x1x5632, .f32⟩
  | .hbm, ⟨13, _⟩ => ⟨S2x8192x5632, .f32⟩
  | .hbm, ⟨14, _⟩ => ⟨S2x8192x5632, .f32⟩
  | .hbm, ⟨15, _⟩ => ⟨S1x5632, .f32⟩
  | .hbm, ⟨16, _⟩ => ⟨S5632, .f32⟩
  | .hbm, ⟨17, _⟩ => ⟨S2x8192x5632, .f32⟩
  | .hbm, ⟨18, _⟩ => ⟨S1x1x5632, .f32⟩
  | .hbm, ⟨19, _⟩ => ⟨S2x8192x5632, .f32⟩
  | .hbm, ⟨20, _⟩ => ⟨S2x8192x5632, .f32⟩
  | .hbm, ⟨21, _⟩ => ⟨S2x8192x5632, .f32⟩
  | .hbm, ⟨22, _⟩ => ⟨S1x5632, .f32⟩
  | .hbm, ⟨23, _⟩ => ⟨S5632, .f32⟩
  | .hbm, ⟨24, _⟩ => ⟨S2x8192x5632, .f32⟩
  | .hbm, ⟨25, _⟩ => ⟨S1x1x5632, .f32⟩
  | .hbm, ⟨26, _⟩ => ⟨S2x8192x5632, .f32⟩
  | .hbm, ⟨27, _⟩ => ⟨S2x8192x5632, .f32⟩
  | .hbm, ⟨28, _⟩ => ⟨S2x8192x5632, .f32⟩
  | .hbm, ⟨29, _⟩ => ⟨S1x1x5632, .f32⟩
  | .hbm, ⟨30, _⟩ => ⟨S2x8192x5632, .f32⟩
  | .hbm, ⟨31, _⟩ => ⟨S2x8192x5632, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S_, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S2x8192x2816, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel3.lean ====
abbrev S2x8192x2816 : Shape := ⟨3, ![2, 8192, 2816]⟩
abbrev S2816x1024 : Shape := ⟨2, ![2816, 1024]⟩
abbrev S2x8192x1024 : Shape := ⟨3, ![2, 8192, 1024]⟩
abbrev S2x1x1024 : Shape := ⟨3, ![2, 1, 1024]⟩
abbrev S1x1024 : Shape := ⟨2, ![1, 1024]⟩
abbrev S1x1024x2816 : Shape := ⟨3, ![1, 1024, 2816]⟩
abbrev S1x1024x1024 : Shape := ⟨3, ![1, 1024, 1024]⟩
abbrev S1x1x1024 : Shape := ⟨3, ![1, 1, 1024]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S2x8192x2816, .bf16⟩
  | .hbm, ⟨1, _⟩ => ⟨S2816x1024, .f32⟩
  | .hbm, ⟨2, _⟩ => ⟨S2x8192x1024, .f32⟩
  | .hbm, ⟨3, _⟩ => ⟨S2x1x1024, .f32⟩
  | .hbm, ⟨4, _⟩ => ⟨S1x1024, .f32⟩
  | .hbm, ⟨5, _⟩ => ⟨S2816x1024, .bf16⟩
  | .hbm, ⟨6, _⟩ => ⟨S2x8192x1024, .f32⟩
  | .local _ .vmem, ⟨0, _⟩ => ⟨S1x1024x2816, .bf16⟩
  | .local _ .vmem, ⟨1, _⟩ => ⟨S1x1024x2816, .bf16⟩
  | .local _ .vmem, ⟨2, _⟩ => ⟨S2816x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S2x8192x2816 : Shape := ⟨3, ![2, 8192, 2816]⟩
abbrev S2816x1024 : Shape := ⟨2, ![2816, 1024]⟩
abbrev S2x8192x1024 : Shape := ⟨3, ![2, 8192, 1024]⟩
abbrev S2x1x1024 : Shape := ⟨3, ![2, 1, 1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S2816x1024, .f32⟩
  | .hbm, ⟨2, _⟩ => ⟨S2x8192x1024, .f32⟩
  | .hbm, ⟨3, _⟩ => ⟨S2x1x1024, .f32⟩
  | .hbm, ⟨4, _⟩ => ⟨S1x1024, .f32⟩
  | .hbm, ⟨5, _⟩ => ⟨S2x8192x2816, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel4.lean ====
abbrev S2x8192x2816 : Shape := ⟨3, ![2, 8192, 2816]⟩
abbrev S2816x1024 : Shape := ⟨2, ![2816, 1024]⟩
abbrev S2x8192x1024 : Shape := ⟨3, ![2, 8192, 1024]⟩
abbrev S2x1x1024 : Shape := ⟨3, ![2, 1, 1024]⟩
abbrev S1x1024 : Shape := ⟨2, ![1, 1024]⟩
abbrev S1x1024x2816 : Shape := ⟨3, ![1, 1024, 2816]⟩
abbrev S1x1024x1024 : Shape := ⟨3, ![1, 1024, 1024]⟩
abbrev S1x1x1024 : Shape := ⟨3, ![1, 1, 1024]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S2x8192x2816, .bf16⟩
  | .hbm, ⟨1, _⟩ => ⟨S2816x1024, .f32⟩
  | .hbm, ⟨2, _⟩ => ⟨S2x8192x1024, .f32⟩
  | .hbm, ⟨3, _⟩ => ⟨S2x1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2816x1024, .bf16⟩
  | .hbm, ⟨8, _⟩ => ⟨S2x8192x1024, .f32⟩
  | .hbm, ⟨9, _⟩ => ⟨S2x8192x1024, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S2816x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .bf16⟩
  | .local _ .vmem, ⟨15, _⟩ => ⟨S1x1024x1024, .bf16⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S2x8192x2816 : Shape := ⟨3, ![2, 8192, 2816]⟩
abbrev S2816x1024 : Shape := ⟨2, ![2816, 1024]⟩
abbrev S2x8192x1024 : Shape := ⟨3, ![2, 8192, 1024]⟩
abbrev S2x1x1024 : Shape := ⟨3, ![2, 1, 1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S2816x1024, .f32⟩
  | .hbm, ⟨2, _⟩ => ⟨S2x8192x1024, .f32⟩
  | .hbm, ⟨3, _⟩ => ⟨S2x1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2x8192x2816, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024x2048 : Shape := ⟨2, ![1024, 2048]⟩
abbrev S2x1x1024 : Shape := ⟨3, ![2, 1, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S2x8192x1024, .bf16⟩
  | .hbm, ⟨1, _⟩ => ⟨S1024x2048, .f32⟩
  | .hbm, ⟨2, _⟩ => ⟨S2x8192x1024, .f32⟩
  | .hbm, ⟨3, _⟩ => ⟨S2x1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S1024x2048, .bf16⟩
  | .hbm, ⟨8, _⟩ => ⟨S2x8192x1024, .f32⟩
  | .hbm, ⟨9, _⟩ => ⟨S2x8192x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1024x2048, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .bf16⟩
  | .local _ .vmem, ⟨15, _⟩ => ⟨S1x1024x1024, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S2x8192x1024 : Shape := ⟨3, ![2, 8192, 1024]⟩
abbrev S1024x2048 : Shape := ⟨2, ![1024, 2048]⟩
abbrev S2x1x1024 : Shape := ⟨3, ![2, 1, 1024]⟩
abbrev S1x1024 : Shape := ⟨2, ![1, 1024]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1024x2048, .f32⟩
  | .hbm, ⟨2, _⟩ => ⟨S2x8192x1024, .f32⟩
  | .hbm, ⟨3, _⟩ => ⟨S2x1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2x8192x1024, .f32⟩
  | .hbm, ⟨8, _⟩ => ⟨S2x8192x2048, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S_, .f32⟩
  | .hbm, ⟨14, _⟩ => ⟨S2x8192x1024, .f32⟩
  | .hbm, ⟨15, _⟩ => ⟨S2x8192x1024, .f32⟩
  | .hbm, ⟨16, _⟩ => ⟨S_, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x1024, .f32⟩
  | .hbm, ⟨35, _⟩ => ⟨S2x8192x1024, .f32⟩
  | .hbm, ⟨36, _⟩ => ⟨S1x1x1024, .f32⟩
  | .hbm, ⟨37, _⟩ => ⟨S2x8192x1024, .f32⟩
  | .hbm, ⟨38, _⟩ => ⟨S2x8192x1024, .f32⟩
  | .hbm, ⟨39, _⟩ => ⟨S_, .f32⟩
  | .hbm, ⟨40, _⟩ => ⟨S2x1x1024, .f32⟩
  | .hbm, ⟨41, _⟩ => ⟨S2x1x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S2x8192x1024, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel6.lean ====
abbrev S2x8192x1024 : Shape := ⟨3, ![2, 8192, 1024]⟩
abbrev S1024x1024 : Shape := ⟨2, ![1024, 1024]⟩
abbrev S2x1x1024 : Shape := ⟨3, ![2, 1, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S2x8192x1024, .bf16⟩
  | .hbm, ⟨1, _⟩ => ⟨S1024x1024, .f32⟩
  | .hbm, ⟨2, _⟩ => ⟨S2x8192x1024, .f32⟩
  | .hbm, ⟨3, _⟩ => ⟨S2x1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S1024x1024, .bf16⟩
  | .hbm, ⟨8, _⟩ => ⟨S2x8192x1024, .f32⟩
  | .hbm, ⟨9, _⟩ => ⟨S2x8192x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .bf16⟩
  | .local _ .vmem, ⟨15, _⟩ => ⟨S1x1024x1024, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S2x8192x1024 : Shape := ⟨3, ![2, 8192, 1024]⟩
abbrev S1024x1024 : Shape := ⟨2, ![1024, 1024]⟩
abbrev S2x1x1024 : Shape := ⟨3, ![2, 1, 1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1024x1024, .f32⟩
  | .hbm, ⟨2, _⟩ => ⟨S2x8192x1024, .f32⟩
  | .hbm, ⟨3, _⟩ => ⟨S2x1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel7.lean ====
abbrev S2x8192x1024 : Shape := ⟨3, ![2, 8192, 1024]⟩
abbrev S1024x1024 : Shape := ⟨2, ![1024, 1024]⟩
abbrev S1x1024x1024 : Shape := ⟨3, ![1, 1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2x8192x1024, .bf16⟩
  | .hbm, ⟨1, _⟩ => ⟨S1024x1024, .f32⟩
  | .hbm, ⟨2, _⟩ => ⟨S1024x1024, .bf16⟩
  | .hbm, ⟨3, _⟩ => ⟨S2x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1x1024x1024, .f32⟩
  | .local _ .vmem, ⟨4, _⟩ => ⟨S1x1024x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2x8192x1024 : Shape := ⟨3, ![2, 8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1024x1024, .f32⟩
  | .hbm, ⟨2, _⟩ => ⟨S2x8192x1024, .f32⟩
  | .hbm, ⟨3, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S2x8192x1024 : Shape := ⟨3, ![2, 8192, 1024]⟩
abbrev S1x1024 : Shape := ⟨2, ![1, 1024]⟩
abbrev S2x1x1024 : Shape := ⟨3, ![2, 1, 1024]⟩
abbrev S1024x3656 : Shape := ⟨2, ![1024, 3656]⟩
abbrev S1024x3072 : Shape := ⟨2, ![1024, 3072]⟩
abbrev S1024x584 : Shape := ⟨2, ![1024, 584]⟩
abbrev S_ : Shape := ⟨0, ![]⟩
abbrev S1024x640 : Shape := ⟨2, ![1024, 640]⟩
abbrev S2x8192x2048 : Shape := ⟨3, ![2, 8192, 2048]⟩
abbrev S2x8192x256 : Shape := ⟨3, ![2, 8192, 256]⟩
abbrev S2x8192x128 : Shape := ⟨3, ![2, 8192, 128]⟩
abbrev S1x512x1024 : Shape := ⟨3, ![1, 512, 1024]⟩
abbrev S1x1x1024 : Shape := ⟨3, ![1, 1, 1024]⟩
abbrev S1x512x2048 : Shape := ⟨3, ![1, 512, 2048]⟩
abbrev S1x512x256 : Shape := ⟨3, ![1, 512, 256]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S512x128 : Shape := ⟨2, ![512, 128]⟩
abbrev S512x640 : Shape := ⟨2, ![512, 640]⟩

abbrev nBuf : Space → Nat
  | .hbm => 21
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x3656, .f32⟩
  | .hbm, ⟨5, _⟩ => ⟨S1024x3072, .f32⟩
  | .hbm, ⟨6, _⟩ => ⟨S1024x3072, .bf16⟩
  | .hbm, ⟨7, _⟩ => ⟨S1024x584, .f32⟩
  | .hbm, ⟨8, _⟩ => ⟨S_, .i32⟩
  | .hbm, ⟨9, _⟩ => ⟨S_, .f32⟩
  | .hbm, ⟨10, _⟩ => ⟨S1024x640, .f32⟩
  | .hbm, ⟨11, _⟩ => ⟨S1024x640, .bf16⟩
  | .hbm, ⟨12, _⟩ => ⟨S1024x640, .f32⟩
  | .hbm, ⟨13, _⟩ => ⟨S1024x640, .f32⟩
  | .hbm, ⟨14, _⟩ => ⟨S1024x640, .bf16⟩
  | .hbm, ⟨15, _⟩ => ⟨S2x8192x1024, .bf16⟩
  | .hbm, ⟨16, _⟩ => ⟨S2x8192x2048, .bf16⟩
  | .hbm, ⟨17, _⟩ => ⟨S2x8192x2048, .bf16⟩
  | .hbm, ⟨18, _⟩ => ⟨S2x8192x2048, .bf16⟩
  | .hbm, ⟨19, _⟩ => ⟨S2x8192x256, .bf16⟩
  | .hbm, ⟨20, _⟩ => ⟨S2x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1024x640, .bf16⟩
  | .local _ .vmem, ⟨9, _⟩ => ⟨S1024x640, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x2048, .bf16⟩
  | .local _ .vmem, ⟨13, _⟩ => ⟨S1x512x2048, .bf16⟩
  | .local _ .vmem, ⟨14, _⟩ => ⟨S1x512x2048, .bf16⟩
  | .local _ .vmem, ⟨15, _⟩ => ⟨S1x512x2048, .bf16⟩
  | .local _ .vmem, ⟨16, _⟩ => ⟨S1x512x2048, .bf16⟩
  | .local _ .vmem, ⟨17, _⟩ => ⟨S1x512x2048, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x128, .f32⟩
  | .local _ .vmem, ⟨21, _⟩ => ⟨S1x512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x640 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference8Ideal.lean ====
abbrev S2x8192x1024 : Shape := ⟨3, ![2, 8192, 1024]⟩
abbrev S1x1024 : Shape := ⟨2, ![1, 1024]⟩
abbrev S2x1x1024 : Shape := ⟨3, ![2, 1, 1024]⟩
abbrev S1024x3656 : Shape := ⟨2, ![1024, 3656]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3656 : Shape := ⟨3, ![2, 8192, 3656]⟩
abbrev S2x8192x512 : Shape := ⟨3, ![2, 8192, 512]⟩
abbrev S2x8192x64 : Shape := ⟨3, ![2, 8192, 64]⟩
abbrev S2x8192x8 : Shape := ⟨3, ![2, 8192, 8]⟩
abbrev S8192 : Shape := ⟨1, ![8192]⟩
abbrev S8192x1 : Shape := ⟨2, ![8192, 1]⟩
abbrev S8192x2 : Shape := ⟨2, ![8192, 2]⟩
abbrev S8192x3 : Shape := ⟨2, ![8192, 3]⟩
abbrev S8192x120 : Shape := ⟨2, ![8192, 120]⟩
abbrev S8192x128 : Shape := ⟨2, ![8192, 128]⟩
abbrev S2x8192x8x128 : Shape := ⟨4, ![2, 8192, 8, 128]⟩
abbrev S1x8192x1x128 : Shape := ⟨4, ![1, 8192, 1, 128]⟩
abbrev S2x8192x8x256 : Shape := ⟨4, ![2, 8192, 8, 256]⟩
abbrev S2x8192x8x64 : Shape := ⟨4, ![2, 8192, 8, 64]⟩
abbrev S2x8192x256 : Shape := ⟨3, ![2, 8192, 256]⟩
abbrev S2x8192x128 : Shape := ⟨3, ![2, 8192, 128]⟩
abbrev S2x8192x2048 : Shape := ⟨3, ![2, 8192, 2048]⟩

abbrev nBuf : Space → Nat
  | .hbm => 131
  | .vmem => 0
  | .smem => 0
  | _ => 0

abbrev hbmTy0_0 (i : Nat) : BufTy := match i % 128 with
  | 0 => ⟨S2x8192x1024, .f32⟩
  | 1 => ⟨S1x1024, .f32⟩
  | 2 => ⟨S2x1x1024, .f32⟩
  | 3 => ⟨S2x1x1024, .f32⟩
  | 4 => ⟨S1024x3656, .f32⟩
  | 5 => ⟨S2x8192x1024, .f32⟩
  | 6 => ⟨S_, .f32⟩
  | 7 => ⟨S2x8192, .f32⟩
  | 8 => ⟨S2x8192x1, .f32⟩
  | 9 => ⟨S_, .f32⟩
  | 10 => ⟨S2x8192x1, .f32⟩
  | 11 => ⟨S2x8192x1, .f32⟩
  | 12 => ⟨S_, .f32⟩
  | 13 => ⟨S2x8192x1, .f32⟩
  | 14 => ⟨S2x8192x1, .f32⟩
  | 15 => ⟨S2x8192x1, .f32⟩
  | 16 => ⟨S2x8192x1024, .f32⟩
  | 17 => ⟨S2x8192x1024, .f32⟩
  | 18 => ⟨S1x1x1024, .f32⟩
  | 19 => ⟨S2x8192x1024, .f32⟩
  | 20 => ⟨S2x8192x1024, .f32⟩
  | 21 => ⟨S_, .f32⟩
  | 22 => ⟨S2x1x1024, .f32⟩
  | 23 => ⟨S2x1x1024, .f32⟩
  | 24 => ⟨S2x8192x1024, .f32⟩
  | 25 => ⟨S2x8192x1024, .f32⟩
  | 26 => ⟨S2x8192x1024, .f32⟩
  | 27 => ⟨S2x8192x1024, .f32⟩
  | 28 => ⟨S2x8192x3656, .f32⟩
  | 29 => ⟨S2x8192x1024, .f32⟩
  | 30 => ⟨S2x8192x1024, .f32⟩
  | 31 => ⟨S2x8192x1024, .f32⟩
  | 32 => ⟨S2x8192x512, .f32⟩
  | 33 => ⟨S2x8192x64, .f32⟩
  | 34 => ⟨S2x8192x8, .f32⟩
  | 35 => ⟨S8192, .i32⟩
  | 36 => ⟨S_, .i32⟩
  | 37 => ⟨S_, .i32⟩
  | 38 => ⟨S8192, .i32⟩
  | 39 => ⟨S8192, .i32⟩
  | 40 => ⟨S8192, .i32⟩
  | 41 => ⟨S_, .i32⟩
  | 42 => ⟨S8192, .i32⟩
  | 43 => ⟨S8192, .i1⟩
  | 44 => ⟨S8192, .i32⟩
  | 45 => ⟨S8192, .i32⟩
  | 46 => ⟨S_, .i32⟩
  | 47 => ⟨S8192, .i32⟩
  | 48 => ⟨S8192, .i1⟩
  | 49 => ⟨S8192, .i1⟩
  | 50 => ⟨S_, .i32⟩
  | 51 => ⟨S8192, .i32⟩
  | 52 => ⟨S8192, .i32⟩
  | 53 => ⟨S8192, .i32⟩
  | 54 => ⟨S_, .i32⟩
  | 55 => ⟨S8192, .i32⟩
  | 56 => ⟨S8192, .i32⟩
  | 57 => ⟨S8192, .f32⟩
  | 58 => ⟨S8192x1, .f32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S8192, .i32⟩
  | 66 => ⟨S8192, .i32⟩
  | 67 => ⟨S_, .i32⟩
  | 68 => ⟨S8192, .i32⟩
  | 69 => ⟨S8192, .i1⟩
  | 70 => ⟨S_, .i32⟩
  | 71 => ⟨S8192, .i32⟩
  | 72 => ⟨S8192, .i1⟩
  | 73 => ⟨S_, .i32⟩
  | 74 => ⟨S_, .i1⟩
  | 75 => ⟨S8192, .i1⟩
  | 76 => ⟨S8192, .i1⟩
  | 77 => ⟨S8192, .i1⟩
  | 78 => ⟨S8192, .i32⟩
  | 79 => ⟨S8192, .i32⟩
  | 80 => ⟨S8192, .i32⟩
  | 81 => ⟨S8192, .f32⟩
  | 82 => ⟨S8192x1, .f32⟩
  | 83 => ⟨S_, .f32⟩
  | 84 => ⟨S8192x2, .f32⟩
  | 85 => ⟨S8192x3, .f32⟩
  | 86 => ⟨S8192x3, .f32⟩
  | 87 => ⟨S_, .f32⟩
  | 88 => ⟨S8192x120, .f32⟩
  | 89 => ⟨S8192x128, .f32⟩
  | 90 => ⟨S2x8192x8x128, .f32⟩
  | 91 => ⟨S1x8192x1x128, .f32⟩
  | 92 => ⟨S2x8192x8x128, .f32⟩
  | 93 => ⟨S2x8192x8x256, .f32⟩
  | 94 => ⟨S2x8192x8x128, .f32⟩
  | 95 => ⟨S2x8192x8x64, .f32⟩
  | 96 => ⟨S2x8192x8x64, .f32⟩
  | 97 => ⟨S_, .f32⟩
  | 98 => ⟨S2x8192x8x128, .f32⟩
  | 99 => ⟨S2x8192x8x256, .f32⟩
  | 100 => ⟨S_, .f32⟩
  | 101 => ⟨S2x8192x512, .f32⟩
  | 102 => ⟨S2x8192x512, .f32⟩
  | 103 => ⟨S2x8192x8x64, .f32⟩
  | 104 => ⟨S2x8192x8x64, .bf16⟩
  | 105 => ⟨S2x8192x8x64, .f32⟩
  | 106 => ⟨S2x8192x64, .bf16⟩
  | 107 => ⟨S2x8192x64, .f32⟩
  | 108 => ⟨S2x8192x8x64, .f32⟩
  | 109 => ⟨S2x8192x8x64, .f32⟩
  | 110 => ⟨S2x8192x8x256, .f32⟩
  | 111 => ⟨S2x8192x64, .f32⟩
  | 112 => ⟨S2x8192x64, .f32⟩
  | 113 => ⟨S2x8192x256, .f32⟩
  | 114 => ⟨S_, .f32⟩
  | 115 => ⟨S2x8192x8, .f32⟩
  | 116 => ⟨S2x8192x8, .f32⟩
  | 117 => ⟨S_, .i32⟩
  | 118 => ⟨S_, .f32⟩
  | 119 => ⟨S2x8192x128, .f32⟩
  | 120 => ⟨S_, .f32⟩
  | 121 => ⟨S2x8192x1024, .f32⟩
  | 122 => ⟨S2x8192x1024, .f32⟩
  | 123 => ⟨S2x8192x1024, .bf16⟩
  | 124 => ⟨S2x8192x2048, .f32⟩
  | 125 => ⟨S2x8192x2048, .bf16⟩
  | 126 => ⟨S2x8192x2048, .f32⟩
  | 127 => ⟨S2x8192x2048, .bf16⟩
  | _ => ⟨S2x8192x1024, .f32⟩

abbrev hbmTy0_1 (i : Nat) : BufTy := match i % 128 with
  | 0 => ⟨S2x8192x2048, .f32⟩
  | 1 => ⟨S2x8192x2048, .bf16⟩
  | 2 => ⟨S2x8192x256, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v27 : Ref sig .tc := ⟨.hbm, 53, rfl⟩
abbrev main_c_3 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_4 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_1 : Ref sig .tc := ⟨.hbm, 67, rfl⟩
abbrev main_call1_v5 : Ref sig .tc := ⟨.hbm, 68, rfl⟩
abbrev main_call1_v6 : Ref sig .tc := ⟨.hbm, 69, rfl⟩
abbrev main_call1_c_2 : Ref sig .tc := ⟨.hbm, 70, rfl⟩
abbrev main_call1_v7 : Ref sig .tc := ⟨.hbm, 71, rfl⟩
abbrev main_call1_v8 : Ref sig .tc := ⟨.hbm, 72, rfl⟩
abbrev main_call1_c_3 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst_5 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_cst_6 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_7 : Ref sig .tc := ⟨.hbm, 97, rfl⟩
abbrev main_v47 : Ref sig .tc := ⟨.hbm, 98, rfl⟩
abbrev main_v48 : Ref sig .tc := ⟨.hbm, 99, rfl⟩
abbrev main_cst_8 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_9 : Ref sig .tc := ⟨.hbm, 114, rfl⟩
abbrev main_v62 : Ref sig .tc := ⟨.hbm, 115, rfl⟩
abbrev main_v63 : Ref sig .tc := ⟨.hbm, 116, rfl⟩
abbrev main_c_10 : Ref sig .tc := ⟨.hbm, 117, rfl⟩
abbrev main_call2_v0 : Ref sig .tc := ⟨.hbm, 118, rfl⟩
abbrev main_v64 : Ref sig .tc := ⟨.hbm, 119, rfl⟩
abbrev main_cst_11 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩

abbrev nD : Nat := 1
abbrev τ : Topo := Topo.v7x

variable {F : FTy → Type} [FloatOps F]
-- ==== Kernel9.lean ====
abbrev S2x1024 : Shape := ⟨2, ![2, 1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S_, .f32⟩
  | .hbm, ⟨4, _⟩ => ⟨S8x1024, .f32⟩
  | .hbm, ⟨5, _⟩ => ⟨S_, .i32⟩
  | .hbm, ⟨6, _⟩ => ⟨S1, .i32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S2x1024 : Shape := ⟨2, ![2, 1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 20
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S2x6144x8, .f32⟩
  | .hbm, ⟨16, _⟩ => ⟨S2x8x6144, .f32⟩
  | .hbm, ⟨17, _⟩ => ⟨S2x1x6144, .f32⟩
  | .hbm, ⟨18, _⟩ => ⟨S2x8x6144, .f32⟩
  | .hbm, ⟨19, _⟩ => ⟨S2x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Proof.FfnDown.lean ====
/-
  The gated residual product of the last layer with its norm (program 3): what the kernel's result array holds is the
  reference's term of the same arguments.
-/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.FfnDown

open Cert.Kernel3Ideal Cert.Kernel3Ideal.Gen

variable (m : (ℓ : Loc nD τ sig) → Buf (Elt Ideal) ℓ)

/-- The residual stream after the product: `x + gate * (a w)`, in the reference's own operations. -/
abbrev stream (A : FVec Ideal Cert.Reference3Ideal.S2x8192x2816 .bf16) (W : FVec Ideal Cert.Reference3Ideal.S2816x1024 .f32)
    (X : FVec Ideal Cert.Reference3Ideal.S2x8192x1024 .f32) (G : FVec Ideal Cert.Reference3Ideal.S2x1x1024 .f32) :
    FVec Ideal Cert.Reference3Ideal.S2x8192x1024 .f32 :=
  addf X (mulf (broadcastInDim Cert.Reference3Ideal.S2x8192x1024 ![0, 1, 2] Cert.Reference3Ideal.Gen.bcast_S2x1x1024_S2x8192x1024_0_1_2 G)
    (Host.dotGeneral Cert.Reference3Ideal.dot_S2x8192x2816_S2816x1024_S2x8192x1024_2_0_01_1_n_n none
      (extf .f32 A Cert.Reference3Ideal.Gen.bitsLt_bf16_f32) W))

/-- The reference's result as one term of its arguments: the stream, divided row by row by the root of its mean square,
    scaled by the norm's weight. -/
abbrev term (A : FVec Ideal Cert.Reference3Ideal.S2x8192x2816 .bf16) (W : FVec Ideal Cert.Reference3Ideal.S2816x1024 .f32)
    (X : FVec Ideal Cert.Reference3Ideal.S2x8192x1024 .f32) (G : FVec Ideal Cert.Reference3Ideal.S2x1x1024 .f32)
    (N : FVec Ideal Cert.Reference3Ideal.S1x1024 .f32) : FVec Ideal Cert.Reference3Ideal.S2x8192x1024 .f32 :=
  mulf (mulf (stream A W X G) (broadcastInDim Cert.Reference3Ideal.S2x8192x1024 ![0, 1, 2] Cert.Reference3Ideal.Gen.bcast_S2x8192x1_S2x8192x1024_0_1_2
    (Host.rsqrt (addf (Host.divf (broadcastInDim Cert.Reference3Ideal.S2x8192x1 ![0, 1] Cert.Reference3Ideal.Gen.bcast_S2x8192_S2x8192x1_0_1
      (Host.reduceAdd (mulf (stream A W X G) (stream A W X G)) (constant Cert.Reference3Ideal.S_ .f32 0x00000000#32)
        Cert.Reference3Ideal.Gen.reducesTo_S2x8192x1024_S2x8192_d2 Cert.Reference3Ideal.Gen.h_S_))
      (broadcastInDim Cert.Reference3Ideal.S2x8192x1 ![] Cert.Reference3Ideal.Gen.bcast_S_S2x8192x1 (constant Cert.Reference3Ideal.S_ .f32 0x44800000#32)))
      (broadcastInDim Cert.Reference3Ideal.S2x8192x1 ![] Cert.Reference3Ideal.Gen.bcast_S_S2x8192x1 (constant Cert.Reference3Ideal.S_ .f32 0x358637BD#32))))))
    (broadcastInDim Cert.Reference3Ideal.S2x8192x1024 ![0, 1, 2] Cert.Reference3Ideal.Gen.bcast_S1x1x1024_S2x8192x1024_0_1_2
      (broadcastInDim Cert.Reference3Ideal.S1x1x1024 ![1, 2] Cert.Reference3Ideal.Gen.bcast_S1x1024_S1x1x1024_1_2 N))

/-- Which block each window of the kernel names at each grid point. -/
theorem places : ∀ t : Fin cfg0.N, win0_0.index t = ![t.val / 8, t.val % 8, 0] ∧ win0_1.index t = ![0, 0]
    ∧ win0_2.index t = ![t.val / 8, t.val % 8, 0] ∧ win0_3.index t = ![t.val / 8, 0, 0] ∧ win0_4.index t = ![0, 0]
    ∧ win0_5.index t = ![t.val / 8, t.val % 8, 0] :=
  (by decide +kernel : ∀ t : Fin grid0.N, _)

/-- What one grid point stores at an index of its block is the reference's term at the place of that index in the array. -/
theorem point (c : Dev nD) (t : Fin cfg0.N) (y) : k0_pay1 (iblk m c 0 t) (iblk m c 1 t) (iblk m c 2 t) (iblk m c 3 t) (iblk m c 4 t) y
    = term (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  pointwise [k0_pay1, term, stream]
  blk_point [iblk, V, places t]

/-- The result array after the run holds the reference's term of the arguments. -/
theorem final (c : Dev nD) : (dats m 0 c).arrAt 5 cfg0.N
    = term (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.Kernel3Ideal.FfnDown

end
-- ==== Proof.FfnUpBlock.lean ====
/-
  The gated up-projection (program 2): what one grid point stores in its block and leaves for the next point.
-/
module

public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Idealize.ShloMosaic.WordCmp

namespace Cert.Kernel2Ideal.FfnUp

open Cert.Kernel2Ideal Cert.Kernel2Ideal.Gen

/-- One row of a block of eight, read off as a row vector: how the body reads the convolution's taps. -/
abbrev tapRow (k : Nat) (h : ∀ a, (![k, 0] : Fin 2 → Nat) a + (![1, 1408] : Fin 2 → Nat) a ≤ S8x1408.size a)
    (x : FVec Ideal S8x1408 .f32) : FVec Ideal S1x1408 .f32 :=
  View.ld (Val := Elt Ideal) (e' := .f32) x (Rect.unit (s := S8x1408) ![k, 0] ![1, 1408] h)

/-- The convolved value half of one block, from the tile of the input, the weights, the carried rows and the taps. -/
def valHalf (x0 : FVec Ideal S1x1024x1024 .bf16) (x1 : FVec Ideal S1024x1408 .bf16) (x3 : FVec Ideal S8x1408 .f32)
    (x5 : FVec Ideal S1x1408 .f32) (xs : FVec Ideal S8x1408 .f32) : FVec Ideal S128x8x1408 .f32 :=
  k0_pay10 (iota .tc S128x8x1408 32 [1] iota_S128x8x1408_d1_w32) (k0_pay6 x0 x1 xs)
    (k0_pay8 x0 x1 x5 (tapRow 2 inb_S8x1408_S1x1408_2_0 x3)) (k0_pay9 x0 x1 xs)
    (tapRow 1 inb_S8x1408_S1x1408_1_0 x3) (tapRow 0 inb_S8x1408_S1x1408_0_0 x3)

/-- What the body stores in its output block: the convolved value half gated by the convolved gate half. -/
def block (x0 : FVec Ideal S1x1024x1024 .bf16) (x1 x2 : FVec Ideal S1024x1408 .bf16) (x3 x4 : FVec Ideal S8x1408 .f32)
    (x5 x6 : FVec Ideal S1x1408 .f32) (xs0 xs1 : FVec Ideal S8x1408 .f32) : FVec Ideal S1x1024x1408 .bf16 :=
  k0_pay1 (iota .tc S128x8x1408 32 [1] iota_S128x8x1408_d1_w32) (valHalf x0 x1 x3 x5 xs0)
    (k0_pay12 (k0_pay4 x0) x2 xs1) (k0_pay14 (k0_pay4 x0) x2 x6 (tapRow 2 inb_S8x1408_S1x1408_2_0 x4))
    (k0_pay15 (k0_pay4 x0) x2 xs1) (k0_pay16 (iota .tc S128x8x1408 32 [1] iota_S128x8x1408_d1_w32))
    (tapRow 1 inb_S8x1408_S1x1408_1_0 x4) (tapRow 0 inb_S8x1408_S1x1408_0_0 x4)

section Points

variable (m : (ℓ : Loc nD τ sig) → Buf (Elt Ideal) ℓ)

/-- Every point leaves the last eight rows of its value product for the next point. -/
theorem left_val (c : Dev nD) (t : Fin cfg0.N) :
    (outsAt0 m c t.val t.isLt).2.1 = k0_pay7 (iblk m c 0 t) (iblk m c 1 t) := by
  by_cases h0 : t.val % 8 = 0
  · rw [outsAt0_A m c t h0]; frame_out
  · rw [outsAt0_B m c t h0]; frame_out

/-- Every point leaves the last eight rows of its gate product for the next point. -/
theorem left_gate (c : Dev nD) (t : Fin cfg0.N) :
    (outsAt0 m c t.val t.isLt).2.2 = k0_pay13 (k0_pay4 (iblk m c 0 t)) (iblk m c 2 t) := by
  by_cases h0 : t.val % 8 = 0
  · rw [outsAt0_A m c t h0]; frame_out
  · rw [outsAt0_B m c t h0]; frame_out

/-- At the first tile of a sequence the block is built over zero rows. -/
theorem stored_first (c : Dev nD) (t : Fin cfg0.N) (h0 : t.val % 8 = 0) :
    (outsAt0 m c t.val t.isLt).1 = block (iblk m c 0 t) (iblk m c 1 t) (iblk m c 2 t) (iblk m c 3 t) (iblk m c 4 t)
      (iblk m c 5 t) (iblk m c 6 t) (k0_pay2 (F := Ideal)) (k0_pay3 (F := Ideal)) := by
  rw [outsAt0_A m c t h0]
  unfold block valHalf tapRow
  frame_out

/-- At a later tile the block is built over the last rows of the products of the tile before. -/
theorem stored_next (c : Dev nD) (t : Fin cfg0.N) (h0 : ¬ t.val % 8 = 0) :
    (outsAt0 m c t.val t.isLt).1 = block (iblk m c 0 t) (iblk m c 1 t) (iblk m c 2 t) (iblk m c 3 t) (iblk m c 4 t)
      (iblk m c 5 t) (iblk m c 6 t)
      (k0_pay7 (iblk m c 0 ⟨t.val - 1, Nat.lt_of_le_of_lt (Nat.sub_le _ _) t.isLt⟩) (iblk m c 1 ⟨t.val - 1, Nat.lt_of_le_of_lt (Nat.sub_le _ _) t.isLt⟩))
      (k0_pay13 (k0_pay4 (iblk m c 0 ⟨t.val - 1, Nat.lt_of_le_of_lt (Nat.sub_le _ _) t.isLt⟩)) (iblk m c 2 ⟨t.val - 1, Nat.lt_of_le_of_lt (Nat.sub_le _ _) t.isLt⟩)) := by
  rw [← left_val m c ⟨t.val - 1, Nat.lt_of_le_of_lt (Nat.sub_le _ _) t.isLt⟩,
    ← left_gate m c ⟨t.val - 1, Nat.lt_of_le_of_lt (Nat.sub_le _ _) t.isLt⟩, outsAt0_B m c t h0]
  unfold block valHalf tapRow
  frame_out
  rw [(Memref.isWhole_whole cc0_scratch0).read_unread, (Memref.isWhole_whole cc0_scratch1).read_unread]

end Points

/-- The product of row `r` of the tile with column `l` of the weights. -/
def prod (x0 : FVec Ideal S1x1024x1024 .bf16) (w : FVec Ideal S1024x1408 .bf16) (r : Nat) (l : Fin 1408) : EReal :=
  if h : r < 1024 then ∑ k : Fin 1024, x0 (ix3 0 (⟨r, h⟩ : Fin 1024) k) * w (ix2 k l) else 0

/-- The product `back` rows above row `r`: of this tile, or of the carried rows where it reaches above the tile. -/
def above (x0 : FVec Ideal S1x1024x1024 .bf16) (w : FVec Ideal S1024x1408 .bf16) (xs : FVec Ideal S8x1408 .f32)
    (back r : Nat) (l : Fin 1408) : EReal :=
  if r < back then (if h : r + 8 - back < 8 then xs (ix2 (⟨r + 8 - back, h⟩ : Fin 8) l) else 0) else prod x0 w (r - back) l

/-- A rotation of the tile's sublanes with the carried rows in front, read where it is taken: the product one or two
    rows above. -/
theorem rotated (x0 : FVec Ideal S1x1024x1024 .bf16) (w : FVec Ideal S1024x1408 .bf16) (xs : FVec Ideal S8x1408 .f32)
    (back : Nat) (hb : 0 < back) (hb' : back < 8) (g s : Nat) (hg : g < 128) (hs : s < 8) (l : Fin 1408)
    {d : Decidable (g < 1)} {A : g < 1 → EReal} {B : ¬ g < 1 → EReal} {C : EReal} {k : BitVec 32} (hk : k = BitVec.ofNat 32 back)
    (hA : ∀ h, A h = xs (ix2 (⟨(s + 8 - back) % 8, Nat.mod_lt _ (by omega)⟩ : Fin 8) l))
    (hB : ∀ h, B h = ∑ x : Fin 1024, x0 (ix3 0 (⟨(g - 1) * 8 + (s + 8 - back) % 8, by omega⟩ : Fin 1024) x) * w (ix2 x l))
    (hC : C = ∑ x : Fin 1024, x0 (ix3 0 (⟨g * 8 + (s + 8 - back) % 8, by omega⟩ : Fin 1024) x) * w (ix2 x l)) :
    Scalar.select (IntOp.cmpi CmpIPredicate.slt (BitVec.ofNat 32 s) k) (dite (g < 1) A B) C = above x0 w xs back (g * 8 + s) l := by
  subst hk
  rw [cmpi_slt_ofNat (by omega) (by omega), select_decide]
  unfold above prod
  by_cases hlt : s < back
  · rw [if_pos hlt]
    by_cases h : g < 1
    · rw [dif_pos h, if_pos (by omega), dif_pos (by omega), hA h]
      congr 2
      ext; dsimp only; omega
    · rw [dif_neg h, if_neg (by omega), dif_pos (by omega), hB h]
      have e : (g - 1) * 8 + (s + 8 - back) % 8 = g * 8 + s - back := by omega
      simp only [e]
  · rw [if_neg hlt, if_neg (by omega), dif_pos (by omega), hC]
    have e : g * 8 + (s + 8 - back) % 8 = g * 8 + s - back := by omega
    simp only [e]

/-- The causal three-tap convolution of the product, at row `r` and column `l` of a tile. -/
def conv (x0 : FVec Ideal S1x1024x1024 .bf16) (w : FVec Ideal S1024x1408 .bf16) (tap : FVec Ideal S8x1408 .f32)
    (bias : FVec Ideal S1x1408 .f32) (xs : FVec Ideal S8x1408 .f32) (r : Nat) (l : Fin 1408) : EReal :=
  ((bias (ix2 0 l) + tap (ix2 2 l) * prod x0 w r l) + tap (ix2 1 l) * above x0 w xs 1 r l) + tap (ix2 0 l) * above x0 w xs 2 r l

/-- The value half is the convolution of the value product. -/
theorem valHalf_at (x0 : FVec Ideal S1x1024x1024 .bf16) (x1 : FVec Ideal S1024x1408 .bf16) (x3 : FVec Ideal S8x1408 .f32)
    (x5 : FVec Ideal S1x1408 .f32) (xs : FVec Ideal S8x1408 .f32) (g : Fin 128) (s : Fin 8) (l : Fin 1408) :
   valHalf x0 x1 x3 x5 xs (ix3 g s l) = conv x0 x1 x3 x5 xs (g.val * 8 + s.val) l := by
  pointwise [valHalf, k0_pay10, k0_pay6, k0_pay8, k0_pay9, k0_pay5, k0_pay4, tapRow]
  unfold conv
  refine congrArg₂ (· + ·) (congrArg₂ (· + ·) (congrArg (fun z => x5 (ix2 0 l) + x3 (ix2 2 l) * z) ?_)
    (congrArg (x3 (ix2 1 l) * ·) ?_)) (congrArg (x3 (ix2 0 l) * ·) ?_)
  · unfold prod
    rw [dif_pos (by omega)]
  · exact rotated x0 x1 xs 1 (by omega) (by omega) g.val s.val g.isLt s.isLt l rfl (fun _ => rfl) (fun _ => rfl) rfl
  · exact rotated x0 x1 xs 2 (by omega) (by omega) g.val s.val g.isLt s.isLt l rfl (fun _ => rfl) (fun _ => rfl) rfl

/-- The value half, gated by `x / 2 + x / 2 · tanh (x / 2)` of the gate `x`. -/
def gated (v x : EReal) : EReal :=
  Ideal.ofBits FTy.f32 1056964608#32 * x * v
    + Ideal.ofBits FTy.f32 1056964608#32 * x * v * Ideal.tanh (Ideal.ofBits FTy.f32 1056964608#32 * x)

/-- The stored block: the convolved value half gated by the convolved gate half. -/
theorem block_at (x0 : FVec Ideal S1x1024x1024 .bf16) (x1 x2 : FVec Ideal S1024x1408 .bf16) (x3 x4 : FVec Ideal S8x1408 .f32)
    (x5 x6 : FVec Ideal S1x1408 .f32) (xs0 xs1 : FVec Ideal S8x1408 .f32) (r : Fin 1024) (l : Fin 1408) :
   block x0 x1 x2 x3 x4 x5 x6 xs0 xs1 (ix3 0 r l) = gated (conv x0 x1 x3 x5 xs0 r.val l) (conv x0 x2 x4 x6 xs1 r.val l) := by
  have er : r.val / 8 * 8 + r.val % 8 = r.val := by omega
  pointwise [block, k0_pay1, k0_pay12, k0_pay14, k0_pay15, k0_pay16, k0_pay11, k0_pay4, tapRow]
  refine congrArg₂ gated ?_ ?_
  · refine (valHalf_at x0 x1 x3 x5 xs0 _ _ l).trans ?_
    dsimp only
    rw [er]
  · unfold conv
    refine congrArg₂ (· + ·) (congrArg₂ (· + ·) (congrArg (fun z => x6 (ix2 0 l) + x4 (ix2 2 l) * z) ?_)
      (congrArg (x4 (ix2 1 l) * ·) ?_)) (congrArg (x4 (ix2 0 l) * ·) ?_)
    · unfold prod
      rw [dif_pos r.isLt]
    · refine (rotated x0 x2 xs1 1 (by omega) (by omega) (r.val / 8) (r.val % 8) (by omega) (by omega) l rfl (fun _ => rfl) (fun _ => rfl) rfl).trans ?_
      rw [er]
    · refine (rotated x0 x2 xs1 2 (by omega) (by omega) (r.val / 8) (r.val % 8) (by omega) (by omega) l rfl (fun _ => rfl) (fun _ => rfl) rfl).trans ?_
      rw [er]

/-- The rows a tile leaves behind: the last eight rows of its value product. -/
theorem left_at (x0 : FVec Ideal S1x1024x1024 .bf16) (w : FVec Ideal S1024x1408 .bf16) (s : Fin 8) (l : Fin 1408) :
    (k0_pay7 x0 w : FVec Ideal S8x1408 .f32) (ix2 s l) = prod x0 w (1016 + s.val) l := by
  unfold prod
  rw [dif_pos (by omega)]
  pointwise [k0_pay7, k0_pay5, k0_pay4]

/-- The same of the gate product. -/
theorem left_at' (x0 : FVec Ideal S1x1024x1024 .bf16) (w : FVec Ideal S1024x1408 .bf16) (s : Fin 8) (l : Fin 1408) :
    (k0_pay13 (k0_pay4 x0) w : FVec Ideal S8x1408 .f32) (ix2 s l) = prod x0 w (1016 + s.val) l := by
  unfold prod
  rw [dif_pos (by omega)]
  pointwise [k0_pay13, k0_pay11, k0_pay4]

/-- The zero rows a sequence starts from. -/
theorem zero_at (s : Fin 8) (l : Fin 1408) : (k0_pay2 (F := Ideal) : FVec Ideal S8x1408 .f32) (ix2 s l) = Ideal.ofBits .f32 0#32 := by
  pointwise [k0_pay2]

/-- The same of the gate product. -/
theorem zero_at' (s : Fin 8) (l : Fin 1408) : (k0_pay3 (F := Ideal) : FVec Ideal S8x1408 .f32) (ix2 s l) = Ideal.ofBits .f32 0#32 := by
  pointwise [k0_pay3]

end Cert.Kernel2Ideal.FfnUp

end
-- ==== Proof.FfnUpArray.lean ====
/-
  The gated up-projection (program 2): what the result array holds after the run, at every index, over the arguments.
-/
module

public import proofs.«01_k».proof.Proof.FfnUpBlock

@[expose] public section

set_option maxRecDepth 16384

noncomputable section

open Idealize.ShloMosaic Idealize.ShloMosaic.TcCoe Idealize.SL.Sem
open Idealize.ShloMosaic.Pipeline (Dat)
open Idealize.ShloMosaic.WordCmp

namespace Cert.Kernel2Ideal.FfnUp

open Cert.Kernel2Ideal Cert.Kernel2Ideal.Gen

/-! ## The convolved product over the whole sequence -/

/-- The product of row `s` of sequence `b` with column `n` of the weights. -/
def seqProd (H : FVec Ideal S2x8192x1024 .bf16) (W : FVec Ideal S1024x5632 .f32) (b : Fin 2) (s : Nat) (n : Fin 5632) : EReal :=
  if h : s < 8192 then ∑ k : Fin 1024, H (ix3 b (⟨s, h⟩ : Fin 8192) k) * W (ix2 k n) else 0

/-- The product `back` rows above row `s`, zero above the sequence's first row. -/
def seqAbove (H : FVec Ideal S2x8192x1024 .bf16) (W : FVec Ideal S1024x5632 .f32) (b : Fin 2) (back s : Nat) (n : Fin 5632) : EReal :=
  if s < back then Ideal.ofBits .f32 0#32 else seqProd H W b (s - back) n

/-- The causal three-tap convolution of the product along the sequence. -/
def seqConv (H : FVec Ideal S2x8192x1024 .bf16) (W : FVec Ideal S1024x5632 .f32) (C : FVec Ideal S3x5632 .f32)
    (D : FVec Ideal S5632 .f32) (b : Fin 2) (s : Nat) (n : Fin 5632) : EReal :=
  ((D (ix1 n) + C (ix2 2 n) * seqProd H W b s n) + C (ix2 1 n) * seqAbove H W b 1 s n) + C (ix2 0 n) * seqAbove H W b 2 s n

/-! ## The blocks of a grid point -/

/-- Which block each window names at each grid point. -/
theorem places : ∀ t : Fin cfg0.N, win0_0.index t = ![t.val / 8 % 2, t.val % 8, 0] ∧ win0_1.index t = ![0, t.val / 16]
    ∧ win0_2.index t = ![0, t.val / 16] ∧ win0_3.index t = ![0, t.val / 16] ∧ win0_4.index t = ![0, t.val / 16]
    ∧ win0_5.index t = ![0, t.val / 16] ∧ win0_6.index t = ![0, t.val / 16]
    ∧ win0_7.index t = ![t.val / 8 % 2, t.val % 8, t.val / 16] :=
  (by decide +kernel : ∀ t : Fin grid0.N, _)

variable (m : (ℓ : Loc nD τ sig) → Buf (Elt Ideal) ℓ)

/-- The sequence of a grid point. -/
abbrev bOf (t : Fin cfg0.N) : Fin 2 := ⟨t.val / 8 % 2, by omega⟩

/-- The column of the value half a grid point's column `l` is. -/
abbrev colV (t : Fin cfg0.N) (l : Fin 1408) : Fin 5632 :=
  ⟨0 + (t.val / 16 * 1408 + l.val), by have := lt_of_lt_of_eq t.isLt (show cfg0.N = 32 from N_0); omega⟩

/-- The column of the gate half a grid point's column `l` is. -/
abbrev colG (t : Fin cfg0.N) (l : Fin 1408) : Fin 5632 :=
  ⟨2816 + (t.val / 16 * 1408 + l.val), by have := lt_of_lt_of_eq t.isLt (show cfg0.N = 32 from N_0); omega⟩

/-- The column of either half a grid point's column `l` is. -/
abbrev half (t : Fin cfg0.N) (l : Fin 1408) : Fin 2816 :=
  ⟨t.val / 16 * 1408 + l.val, by have := lt_of_lt_of_eq t.isLt (show cfg0.N = 32 from N_0); omega⟩

/-! What the host hands over: the halves of the weights, of the taps and of the bias. -/

/-- Half of the weights, from column `off` on. -/
def weightHalf (off : Nat) (h : S1024x5632.Slices ![0, off] S1024x2816) (W : FVec Ideal S1024x5632 .f32) : FVec Ideal S1024x2816 .bf16 :=
  truncf .bf16 (extractStridedSlice S1024x2816 ![0, off] W h) bitsLt_bf16_f32

/-- Half of the taps, from column `off` on, under five further rows. -/
def tapHalf (off : Nat) (h : S3x5632.Slices ![0, off] S3x2816) (C : FVec Ideal S3x5632 .f32) : FVec Ideal S8x2816 .f32 :=
  pad S8x2816 ![0, 0] ![5, 0] ![0, 0] (extractStridedSlice S3x2816 ![0, off] C h)
    (sitofp .f32 (constantI S_ 32 0#32) : FVec Ideal S_ .f32) pads_S3x2816_S8x2816_050_000 h_S_

/-- Half of the bias, from column `off` on, as one row. -/
def biasHalf (off : Nat) (h : S5632.Slices ![off] S2816) (D : FVec Ideal S5632 .f32) : FVec Ideal S1x2816 .f32 :=
  shapeCast S1x2816 (extractStridedSlice S2816 ![off] D h) shapeCasts_S2816_S1x2816

/-- One entry of half of the weights. -/
theorem weightHalf_at (off : Nat) (h : S1024x5632.Slices ![0, off] S1024x2816) (W : FVec Ideal S1024x5632 .f32) (ho : off ≤ 2816)
    (k : Fin 1024) (l : Fin 2816) : weightHalf off h W (ix2 k l) = W (ix2 k (⟨off + l.val, by omega⟩ : Fin 5632)) := by
  pointwise [weightHalf]

/-- One entry of half of the taps. -/
theorem tapHalf_at (off : Nat) (h : S3x5632.Slices ![0, off] S3x2816) (C : FVec Ideal S3x5632 .f32) (ho : off ≤ 2816)
    (k : Fin 8) (hk : k.val < 3) (l : Fin 2816) : tapHalf off h C (ix2 k l) = C (ix2 (⟨k.val, hk⟩ : Fin 3) (⟨off + l.val, by omega⟩ : Fin 5632)) := by
  pointwise [tapHalf]
  rw [dif_pos hk]

/-- One entry of half of the bias. -/
theorem biasHalf_at (off : Nat) (h : S5632.Slices ![off] S2816) (D : FVec Ideal S5632 .f32) (ho : off ≤ 2816)
    (l : Fin 2816) : biasHalf off h D (ix2 0 l) = D (ix1 (⟨off + l.val, by omega⟩ : Fin 5632)) := by
  pointwise [biasHalf]

/-- The array behind the weight window of the value half. -/
theorem entry1 (c : Dev nD) : V m c main_v1 = weightHalf 0 slices_S1024x5632_S1024x2816_0_0 (m ((c : Thread nD τ).loc main_arg1)) := by
  unfold V
  simp only [List.flatten_cons, List.flatten_nil, List.append_nil, List.cons_append, List.nil_append]
  after_results_simp
  rfl

/-- The array behind the weight window of the gate half. -/
theorem entry2 (c : Dev nD) : V m c main_v3 = weightHalf 2816 slices_S1024x5632_S1024x2816_0_2816 (m ((c : Thread nD τ).loc main_arg1)) := by
  unfold V
  simp only [List.flatten_cons, List.flatten_nil, List.append_nil, List.cons_append, List.nil_append]
  after_results_simp
  rfl

/-- The array behind the window of the taps of the value half. -/
theorem entry3 (c : Dev nD) : V m c main_v5 = tapHalf 0 slices_S3x5632_S3x2816_0_0 (m ((c : Thread nD τ).loc main_arg2)) := by
  unfold V
  simp only [List.flatten_cons, List.flatten_nil, List.append_nil, List.cons_append, List.nil_append]
  after_results_simp
  rfl

/-- The array behind the window of the taps of the gate half. -/
theorem entry4 (c : Dev nD) : V m c main_v7 = tapHalf 2816 slices_S3x5632_S3x2816_0_2816 (m ((c : Thread nD τ).loc main_arg2)) := by
  unfold V
  simp only [List.flatten_cons, List.flatten_nil, List.append_nil, List.cons_append, List.nil_append]
  after_results_simp
  rfl

/-- The array behind the window of the bias of the value half. -/
theorem entry5 (c : Dev nD) : V m c main_v9 = biasHalf 0 slices_S5632_S2816_0 (m ((c : Thread nD τ).loc main_arg3)) := by
  unfold V
  simp only [List.flatten_cons, List.flatten_nil, List.append_nil, List.cons_append, List.nil_append]
  after_results_simp
  rfl

/-- The array behind the window of the bias of the gate half. -/
theorem entry6 (c : Dev nD) : V m c main_v11 = biasHalf 2816 slices_S5632_S2816_2816 (m ((c : Thread nD τ).loc main_arg3)) := by
  unfold V
  simp only [List.flatten_cons, List.flatten_nil, List.append_nil, List.cons_append, List.nil_append]
  after_results_simp
  rfl

/-- The rows a grid point reads. -/
theorem tile (c : Dev nD) (t : Fin cfg0.N) (r : Fin 1024) (k : Fin 1024) :
    (iblk m c 0 t : FVec Ideal S1x1024x1024 .bf16) (ix3 0 r k)
      = m ((c : Thread nD τ).loc main_arg0) (ix3 (bOf t) (⟨t.val % 8 * 1024 + r.val, by omega⟩ : Fin 8192) k) := by
  blk_point [iblk, V, places t]

/-- The weights of the value half a grid point reads. -/
theorem weightV (c : Dev nD) (t : Fin cfg0.N) (k : Fin 1024) (l : Fin 1408) :
    (iblk m c 1 t : FVec Ideal S1024x1408 .bf16) (ix2 k l) = m ((c : Thread nD τ).loc main_arg1) (ix2 k (colV t l)) := by
  have e : ((cfg0.win 1).blk t).view.emb (ix2 k l) = ix2 k (half t l) := by blk_ext [places t]
  unfold iblk
  refine ((congrArg (V m c main_v1) e).trans (congrFun (entry1 m c) _)).trans ?_
  refine (weightHalf_at 0 _ _ (by omega) k _).trans ?_
  blk_ext

/-- The weights of the gate half a grid point reads. -/
theorem weightG (c : Dev nD) (t : Fin cfg0.N) (k : Fin 1024) (l : Fin 1408) :
    (iblk m c 2 t : FVec Ideal S1024x1408 .bf16) (ix2 k l) = m ((c : Thread nD τ).loc main_arg1) (ix2 k (colG t l)) := by
  have e : ((cfg0.win 2).blk t).view.emb (ix2 k l) = ix2 k (half t l) := by blk_ext [places t]
  unfold iblk
  refine ((congrArg (V m c main_v3) e).trans (congrFun (entry2 m c) _)).trans ?_
  refine (weightHalf_at 2816 _ _ (by omega) k _).trans ?_
  blk_ext

/-- The taps of the value half a grid point reads. -/
theorem tapV (c : Dev nD) (t : Fin cfg0.N) (k : Fin 3) (l : Fin 1408) :
    (iblk m c 3 t : FVec Ideal S8x1408 .f32) (ix2 (⟨k.val, by omega⟩ : Fin 8) l) = m ((c : Thread nD τ).loc main_arg2) (ix2 k (colV t l)) := by
  have e : ((cfg0.win 3).blk t).view.emb (ix2 (⟨k.val, by omega⟩ : Fin 8) l) = ix2 (⟨k.val, by omega⟩ : Fin 8) (half t l) := by blk_ext [places t]
  unfold iblk
  refine ((congrArg (V m c main_v5) e).trans (congrFun (entry3 m c) _)).trans ?_
  refine (tapHalf_at 0 _ _ (by omega) (⟨k.val, by omega⟩ : Fin 8) k.isLt _).trans ?_
  blk_ext

/-- The taps of the gate half a grid point reads. -/
theorem tapG (c : Dev nD) (t : Fin cfg0.N) (k : Fin 3) (l : Fin 1408) :
    (iblk m c 4 t : FVec Ideal S8x1408 .f32) (ix2 (⟨k.val, by omega⟩ : Fin 8) l) = m ((c : Thread nD τ).loc main_arg2) (ix2 k (colG t l)) := by
  have e : ((cfg0.win 4).blk t).view.emb (ix2 (⟨k.val, by omega⟩ : Fin 8) l) = ix2 (⟨k.val, by omega⟩ : Fin 8) (half t l) := by blk_ext [places t]
  unfold iblk
  refine ((congrArg (V m c main_v7) e).trans (congrFun (entry4 m c) _)).trans ?_
  refine (tapHalf_at 2816 _ _ (by omega) (⟨k.val, by omega⟩ : Fin 8) k.isLt _).trans ?_
  blk_ext

/-- The bias of the value half a grid point reads. -/
theorem biasV (c : Dev nD) (t : Fin cfg0.N) (l : Fin 1408) :
    (iblk m c 5 t : FVec Ideal S1x1408 .f32) (ix2 0 l) = m ((c : Thread nD τ).loc main_arg3) (ix1 (colV t l)) := by
  have e : ((cfg0.win 5).blk t).view.emb (ix2 0 l) = ix2 0 (half t l) := by blk_ext [places t]
  unfold iblk
  refine ((congrArg (V m c main_v9) e).trans (congrFun (entry5 m c) _)).trans ?_
  refine (biasHalf_at 0 _ _ (by omega) _).trans ?_
  blk_ext

/-- The bias of the gate half a grid point reads. -/
theorem biasG (c : Dev nD) (t : Fin cfg0.N) (l : Fin 1408) :
    (iblk m c 6 t : FVec Ideal S1x1408 .f32) (ix2 0 l) = m ((c : Thread nD τ).loc main_arg3) (ix1 (colG t l)) := by
  have e : ((cfg0.win 6).blk t).view.emb (ix2 0 l) = ix2 0 (half t l) := by blk_ext [places t]
  unfold iblk
  refine ((congrArg (V m c main_v11) e).trans (congrFun (entry6 m c) _)).trans ?_
  refine (biasHalf_at 2816 _ _ (by omega) _).trans ?_
  blk_ext

/-! ## The convolution of a tile is the convolution of the sequence -/

/-- A tile's convolution is the sequence's, from: its products are the sequence's from row `base` on, and its carried rows
    are zeros before the first tile or the eight rows before `base`. -/
theorem conv_seq (H : FVec Ideal S2x8192x1024 .bf16) (W : FVec Ideal S1024x5632 .f32) (C : FVec Ideal S3x5632 .f32)
    (D : FVec Ideal S5632 .f32) (b : Fin 2) (n : Fin 5632) (base : Nat)
    (x0 : FVec Ideal S1x1024x1024 .bf16) (w : FVec Ideal S1024x1408 .bf16) (tap : FVec Ideal S8x1408 .f32)
    (bias : FVec Ideal S1x1408 .f32) (xs : FVec Ideal S8x1408 .f32) (l : Fin 1408)
    (hp : ∀ r, r < 1024 → prod x0 w r l = seqProd H W b (base + r) n)
    (ht : ∀ k : Fin 3, tap (ix2 (⟨k.val, by omega⟩ : Fin 8) l) = C (ix2 k n)) (hd : bias (ix2 0 l) = D (ix1 n))
    (hx : (base = 0 ∧ ∀ s : Fin 8, xs (ix2 s l) = Ideal.ofBits .f32 0#32)
      ∨ (8 ≤ base ∧ ∀ s : Fin 8, xs (ix2 s l) = seqProd H W b (base - 8 + s.val) n))
    (r : Nat) (hr : r < 1024) : conv x0 w tap bias xs r l = seqConv H W C D b (base + r) n := by
  have ha : ∀ back, 0 < back → back < 8 → above x0 w xs back r l = seqAbove H W b back (base + r) n := by
    intro back hb hb'
    unfold above seqAbove
    by_cases h : r < back
    · rw [if_pos h, dif_pos (by omega)]
      rcases hx with ⟨h0, hx⟩ | ⟨h8, hx⟩
      · rw [if_pos (by omega)]; exact hx _
      · rw [if_neg (by omega), hx]
        dsimp only
        congr 1; omega
    · rw [if_neg h, if_neg (by omega), hp _ (by omega)]
      congr 1; omega
  unfold conv seqConv
  rw [ha 1 (by omega) (by omega), ha 2 (by omega) (by omega), hp r hr, hd]
  have t0 := ht 0
  have t1 := ht 1
  have t2 := ht 2
  exact congrArg₂ (· + ·) (congrArg₂ (· + ·) (congrArg (fun z => D (ix1 n) + z * seqProd H W b (base + r) n) t2)
    (congrArg (· * seqAbove H W b 1 (base + r) n) t1)) (congrArg (· * seqAbove H W b 2 (base + r) n) t0)

/-- A tile's product with the value half is the sequence's. -/
theorem prodV (c : Dev nD) (t : Fin cfg0.N) (l : Fin 1408) (r : Nat) (hr : r < 1024) :
    prod (iblk m c 0 t) (iblk m c 1 t) r l
      = seqProd (m ((c : Thread nD τ).loc main_arg0)) (m ((c : Thread nD τ).loc main_arg1)) (bOf t) (t.val % 8 * 1024 + r) (colV t l) := by
  unfold prod seqProd
  rw [dif_pos hr, dif_pos (by omega)]
  exact Finset.sum_congr rfl fun k _ => congrArg₂ (· * ·) (tile m c t ⟨r, hr⟩ k) (weightV m c t k l)

/-- A tile's product with the gate half is the sequence's. -/
theorem prodG (c : Dev nD) (t : Fin cfg0.N) (l : Fin 1408) (r : Nat) (hr : r < 1024) :
    prod (iblk m c 0 t) (iblk m c 2 t) r l
      = seqProd (m ((c : Thread nD τ).loc main_arg0)) (m ((c : Thread nD τ).loc main_arg1)) (bOf t) (t.val % 8 * 1024 + r) (colG t l) := by
  unfold prod seqProd
  rw [dif_pos hr, dif_pos (by omega)]
  exact Finset.sum_congr rfl fun k _ => congrArg₂ (· * ·) (tile m c t ⟨r, hr⟩ k) (weightG m c t k l)

/-- The point before, in the same sequence and of the same columns. -/
abbrev before (t : Fin cfg0.N) : Fin cfg0.N := ⟨t.val - 1, Nat.lt_of_le_of_lt (Nat.sub_le _ _) t.isLt⟩

/-- The point before is of the same sequence. -/
theorem bOf_before (t : Fin cfg0.N) (h : ¬ t.val % 8 = 0) : bOf (before t) = bOf t := by
  ext; dsimp only; omega

/-- The point before is of the same columns of the value half. -/
theorem colV_before (t : Fin cfg0.N) (h : ¬ t.val % 8 = 0) (l : Fin 1408) : colV (before t) l = colV t l := by
  ext; dsimp only; omega

/-- The point before is of the same columns of the gate half. -/
theorem colG_before (t : Fin cfg0.N) (h : ¬ t.val % 8 = 0) (l : Fin 1408) : colG (before t) l = colG t l := by
  ext; dsimp only; omega

/-- What a grid point stores, at every index of its block. -/
theorem stored (c : Dev nD) (t : Fin cfg0.N) (r : Fin 1024) (l : Fin 1408) :
    ((outsAt0 m c t.val t.isLt).1 : FVec Ideal S1x1024x1408 .bf16) (ix3 0 r l)
      = gated (seqConv (m ((c : Thread nD τ).loc main_arg0)) (m ((c : Thread nD τ).loc main_arg1)) (m ((c : Thread nD τ).loc main_arg2))
            (m ((c : Thread nD τ).loc main_arg3)) (bOf t) (t.val % 8 * 1024 + r.val) (colV t l))
          (seqConv (m ((c : Thread nD τ).loc main_arg0)) (m ((c : Thread nD τ).loc main_arg1)) (m ((c : Thread nD τ).loc main_arg2))
            (m ((c : Thread nD τ).loc main_arg3)) (bOf t) (t.val % 8 * 1024 + r.val) (colG t l)) := by
  by_cases h : t.val % 8 = 0
  · refine (congrFun (stored_first m c t h) _).trans ((block_at _ _ _ _ _ _ _ _ _ r l).trans (congrArg₂ gated ?_ ?_))
    · exact conv_seq _ _ _ _ _ _ _ _ _ _ _ _ l (prodV m c t l) (fun k => tapV m c t k l) (biasV m c t l)
        (Or.inl ⟨by omega, fun s => zero_at s l⟩) r.val r.isLt
    · exact conv_seq _ _ _ _ _ _ _ _ _ _ _ _ l (prodG m c t l) (fun k => tapG m c t k l) (biasG m c t l)
        (Or.inl ⟨by omega, fun s => zero_at' s l⟩) r.val r.isLt
  · refine (congrFun (stored_next m c t h) _).trans ((block_at _ _ _ _ _ _ _ _ _ r l).trans (congrArg₂ gated ?_ ?_))
    · refine conv_seq _ _ _ _ _ _ _ _ _ _ _ _ l (prodV m c t l) (fun k => tapV m c t k l) (biasV m c t l)
        (Or.inr ⟨by omega, fun s => (left_at _ _ s l).trans ((prodV m c (before t) l _ (by omega)).trans ?_)⟩) r.val r.isLt
      rw [bOf_before t h, colV_before t h]
      congr 1; dsimp only; omega
    · refine conv_seq _ _ _ _ _ _ _ _ _ _ _ _ l (prodG m c t l) (fun k => tapG m c t k l) (biasG m c t l)
        (Or.inr ⟨by omega, fun s => (left_at' _ _ s l).trans ((prodG m c (before t) l _ (by omega)).trans ?_)⟩) r.val r.isLt
      rw [bOf_before t h, colG_before t h]
      congr 1; dsimp only; omega

/-- The gated convolution at every index of the result. -/
def result (H : FVec Ideal S2x8192x1024 .bf16) (W : FVec Ideal S1024x5632 .f32) (C : FVec Ideal S3x5632 .f32)
    (D : FVec Ideal S5632 .f32) : FVec Ideal S2x8192x2816 .bf16 := fun i =>
  gated (seqConv H W C D (i 0) (i 1).val (⟨0 + (i 2).val, by have : (i 2).val < 2816 := (i 2).isLt; omega⟩ : Fin 5632))
    (seqConv H W C D (i 0) (i 1).val (⟨2816 + (i 2).val, by have : (i 2).val < 2816 := (i 2).isLt; omega⟩ : Fin 5632))

/-- The result array after the run holds the gated convolution of the arguments. -/
theorem final (c : Dev nD) : (dats m 0 c).arrAt 7 cfg0.N
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t _ y => ?_
  blk_simp
  rw [after0_7]
  idx_vars y
  obtain rfl : y0 = 0 := Subsingleton.elim _ _
  have e : ((cfg0.win 7).blk t).view.emb (ix3 (0 : Fin 1) y1 y2) = ix3 (bOf t) (⟨t.val % 8 * 1024 + y1.val, by omega⟩ : Fin 8192) (half t y2) := by
    blk_ext [places t]
  exact (stored m c t y1 y2).trans (congrArg (result _ _ _ _) e).symm

end Cert.Kernel2Ideal.FfnUp

end
-- ==== Proof.RealValues.lean ====
/-
  Real values among the extended reals: what is closed under the operations the programs use, and what the
  preconditions (every absolute value below infinity) say of an array.
-/
module

public import Idealize.ShloMosaic.Lib.Pipeline.ValueKit
public import Idealize.ShloMosaic.Lib.ReduceAll
public import Idealize.ShloMosaic.Lib.IdealHost
public import Mathlib.Analysis.SpecialFunctions.Trigonometric.DerivHyp

@[expose] public section

noncomputable section

open Idealize.ShloMosaic

namespace Cert.RealValues

/-- The extended real is a real number. -/
def IsReal (x : EReal) : Prop := ∃ r : ℝ, x = (r : EReal)

/-- A real number is real. -/
theorem isReal_coe (r : ℝ) : IsReal (r : EReal) := ⟨r, rfl⟩

/-- Zero is real. -/
theorem isReal_zero : IsReal 0 := ⟨0, by simp⟩

/-- A sum of two real values is real. -/
theorem IsReal.add {x y : EReal} (hx : IsReal x) (hy : IsReal y) : IsReal (x + y) := by
  obtain ⟨a, rfl⟩ := hx
  obtain ⟨b, rfl⟩ := hy
  exact ⟨a + b, by simp⟩

/-- A product of two real values is real. -/
theorem IsReal.mul {x y : EReal} (hx : IsReal x) (hy : IsReal y) : IsReal (x * y) := by
  obtain ⟨a, rfl⟩ := hx
  obtain ⟨b, rfl⟩ := hy
  exact ⟨a * b, by simp⟩

/-- A finite sum of real values is real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- An absolute value below infinity belongs to a real number. -/
theorem isReal_of_abs_lt (x : EReal) (h : max x (-x) < ⊤) : IsReal x := by
  induction x with
  | bot => simp at h
  | top => simp at h
  | coe r => exact ⟨r, rfl⟩

/-- The float that bounds the finite ones is the upper end. -/
theorem infinity : Ideal.ofBits .f32 0x7F800000#32 = ⊤ := by
  simp [Ideal.ofBits, Ideal.ieee]

/-- An array whose absolute values all test below infinity holds real numbers. -/
theorem isReal_of_all {s : Shape} {t u : Shape} {axes : List (Fin s.rank)} [Subsingleton t.Idx] (x : FVec Ideal s .f32)
    (hb : (⟨0, ![]⟩ : Shape).BroadcastsInDim s ![]) (init : u.Idx → BitVec 1) (hr : s.ReducesTo axes t) (hu : 0 < u.numel) (j : t.Idx)
    (e : Host.reduce IntOp.andi (cmpf .olt (Host.absf x) (broadcastInDim s ![] hb (constant (⟨0, ![]⟩ : Shape) .f32 0x7F800000#32)))
      init hr hu j = 1#1) (i : s.Idx) : IsReal (x i) := by
  have h := Host.reduce_andi_all _ _ _ _ j e i
  have h2 : Ideal.cmp .olt (max (x i) (-(x i))) (Ideal.ofBits .f32 0x7F800000#32) = 1#1 := h
  rw [infinity] at h2
  refine isReal_of_abs_lt _ ?_
  by_contra hn
  simp [Ideal.cmp, hn] at h2

/-- The float one half is the real number one half. -/
theorem half : Ideal.ofBits .f32 1056964608#32 = (((1 : ℝ) / 2 : ℝ) : EReal) := by
  simp [Ideal.ofBits, Ideal.ieee, -EReal.coe_mul]
  norm_num

/-- `x / 2 · v · (1 + tanh (x / 2))` is `x · v / (1 + exp (−x))`. -/
theorem gate_eq (v x : ℝ) : 1 / 2 * x * v + 1 / 2 * x * v * Real.tanh (1 / 2 * x) = x * (1 * (1 + Real.exp (-x))⁻¹) * v := by
  rw [Real.tanh_eq_sinh_div_cosh, Real.sinh_eq, Real.cosh_eq]
  have e1 : Real.exp (-x) = Real.exp (-(1 / 2 * x)) * Real.exp (-(1 / 2 * x)) := by rw [← Real.exp_add]; ring_nf
  have e2 : Real.exp (1 / 2 * x) * Real.exp (-(1 / 2 * x)) = 1 := by rw [← Real.exp_add]; simp
  have hp := Real.exp_pos (1 / 2 * x)
  have hn := Real.exp_pos (-(1 / 2 * x))
  rw [e1]
  generalize Real.exp (1 / 2 * x) = a at *
  generalize Real.exp (-(1 / 2 * x)) = b at *
  have h1 : (1 + b * b) ≠ 0 := by positivity
  have h2 : a + b ≠ 0 := by positivity
  field_simp
  linear_combination 2 * x * v * b * e2

end Cert.RealValues

end
-- ==== Proof.FfnUpReference.lean ====
/-
  The gated up-projection (program 2): the reference's composed term read at an index, and its equality with what the
  kernel's result array holds, for real arguments.
-/
module

public import proofs.«01_k».proof.Proof.FfnUpArray
public import proofs.«01_k».proof.Proof.RealValues
public import proofs.«01_k».proof.Proof.Gen.Reference2Ideal.Run
public import proofs.«01_k».proof.Proof.Gen.Pre_usable2

@[expose] public section

set_option maxRecDepth 16384

noncomputable section

open Idealize.ShloMosaic Idealize.ShloMosaic.TcCoe Idealize.SL.Sem
open Idealize.ShloMosaic.WordCmp
open Cert.RealValues

namespace Cert.Reference2Ideal.FfnUp

open Cert.Reference2Ideal Cert.Reference2Ideal.Gen

/-- The reference's product with two zero rows in front of every sequence. -/
def padded (H : FVec Ideal S2x8192x1024 .bf16) (W : FVec Ideal S1024x5632 .f32) : FVec Ideal S2x8194x5632 .f32 :=
  pad S2x8194x5632 ![0, 2, 0] ![0, 0, 0] ![0, 0, 0]
    (Host.dotGeneral dot_S2x8192x1024_S1024x5632_S2x8192x5632_2_0_01_1_n_n none (extf .f32 H bitsLt_bf16_f32) W)
    (sitofp .f32 (constantI S_ 32 0#32)) pads_S2x8192x5632_S2x8194x5632_000_200_000 h_S_

/-- One of the reference's taps, the same for every row of every sequence. -/
def spread (k : Nat) (h : S3x5632.Slices ![k, 0] S1x5632) (C : FVec Ideal S3x5632 .f32) : FVec Ideal S2x8192x5632 .f32 :=
  broadcastInDim S2x8192x5632 ![0, 1, 2] bcast_S1x1x5632_S2x8192x5632_0_1_2 (broadcastInDim S1x1x5632 ![2] bcast_S5632_S1x1x5632_2
    (shapeCast S5632 (extractStridedSlice S1x5632 ![k, 0] C h) shapeCasts_S1x5632_S5632))

/-- The reference's convolution along the sequences, with its bias. -/
def convolved (H : FVec Ideal S2x8192x1024 .bf16) (W : FVec Ideal S1024x5632 .f32) (C : FVec Ideal S3x5632 .f32)
    (D : FVec Ideal S5632 .f32) : FVec Ideal S2x8192x5632 .f32 :=
  addf (addf (addf (mulf (spread 0 slices_S3x5632_S1x5632_0_0 C) (extractStridedSlice S2x8192x5632 ![0, 0, 0] (padded H W) slices_S2x8194x5632_S2x8192x5632_0_0_0))
      (mulf (spread 1 slices_S3x5632_S1x5632_1_0 C) (extractStridedSlice S2x8192x5632 ![0, 1, 0] (padded H W) slices_S2x8194x5632_S2x8192x5632_0_1_0)))
    (mulf (spread 2 slices_S3x5632_S1x5632_2_0 C) (extractStridedSlice S2x8192x5632 ![0, 2, 0] (padded H W) slices_S2x8194x5632_S2x8192x5632_0_2_0)))
  (broadcastInDim S2x8192x5632 ![0, 1, 2] bcast_S1x1x5632_S2x8192x5632_0_1_2 (broadcastInDim S1x1x5632 ![2] bcast_S5632_S1x1x5632_2 D))

/-- The reference's result: the gate half through the logistic gate, times the value half. -/
def term (H : FVec Ideal S2x8192x1024 .bf16) (W : FVec Ideal S1024x5632 .f32) (C : FVec Ideal S3x5632 .f32)
    (D : FVec Ideal S5632 .f32) : FVec Ideal S2x8192x2816 .bf16 :=
  truncf .bf16 (mulf (mulf (extractStridedSlice S2x8192x2816 ![0, 0, 2816] (convolved H W C D) slices_S2x8192x5632_S2x8192x2816_0_0_2816)
      (Host.divf (broadcastInDim S2x8192x2816 ![] bcast_S_S2x8192x2816 (constant S_ .f32 0x3F800000#32))
        (addf (broadcastInDim S2x8192x2816 ![] bcast_S_S2x8192x2816 (constant S_ .f32 0x3F800000#32))
          (Host.exp (Host.negf (extractStridedSlice S2x8192x2816 ![0, 0, 2816] (convolved H W C D) slices_S2x8192x5632_S2x8192x2816_0_0_2816))))))
    (extractStridedSlice S2x8192x2816 ![0, 0, 0] (convolved H W C D) slices_S2x8192x5632_S2x8192x2816_0_0_0)) bitsLt_bf16_f32

/-- The reference's run ends with its result at this term of the arguments. -/
theorem result_eq (m : (ℓ : Loc nD τ sig) → Buf (Elt Ideal) ℓ) (c : Dev nD) : Value.res_main_v30 m c
    = term (m ((c.tc : Thread nD τ).loc main_arg0)) (m ((c.tc : Thread nD τ).loc main_arg1)) (m ((c.tc : Thread nD τ).loc main_arg2))
        (m ((c.tc : Thread nD τ).loc main_arg3)) := by
  unfold Value.res_main_v30 term convolved spread padded
  rfl

open Cert.Kernel2Ideal.FfnUp (seqProd seqAbove seqConv gated result)

/-- The integer zero made a float is the float zero. -/
theorem zero_word : (FloatOps.sitofp FTy.f32 0#32 : Ideal .f32) = Ideal.ofBits .f32 0#32 := by
  show (((0#32 : BitVec 32).toInt : ℝ) : EReal) = _
  simp [Ideal.ofBits, Ideal.ieee]

/-- Row `s` of the padded product is the product two rows above. -/
theorem padded_at (H : FVec Ideal S2x8192x1024 .bf16) (W : FVec Ideal S1024x5632 .f32) (b : Fin 2) (s : Fin 8194) (n : Fin 5632) :
    padded H W (ix3 b s n) = seqAbove H W b 2 s.val n := by
  pointwise [padded]
  unfold seqAbove seqProd
  by_cases h : s.val < 2
  · rw [dif_neg (by omega), if_pos h]
    exact zero_word
  · rw [dif_pos ⟨by omega, by omega⟩, if_neg h, dif_pos (by omega)]

/-- The reference's convolution is the sequence's: the same four terms summed in another order. -/
theorem convolved_at (H : FVec Ideal S2x8192x1024 .bf16) (W : FVec Ideal S1024x5632 .f32) (C : FVec Ideal S3x5632 .f32)
    (D : FVec Ideal S5632 .f32) (b : Fin 2) (s : Fin 8192) (n : Fin 5632) :
    convolved H W C D (ix3 b s n) = seqConv H W C D b s.val n := by
  pointwise [convolved, spread]
  have p0 := padded_at H W b ⟨s.val, by omega⟩ n
  have p1 := padded_at H W b ⟨1 + s.val, by omega⟩ n
  have p2 := padded_at H W b ⟨2 + s.val, by omega⟩ n
  have e1 : seqAbove H W b 2 (1 + s.val) n = seqAbove H W b 1 s.val n := by
    unfold seqAbove
    by_cases h : s.val < 1
    · rw [if_pos h, if_pos (by omega)]
    · rw [if_neg h, if_neg (by omega)]
      congr 1; omega
  have e2 : seqAbove H W b 2 (2 + s.val) n = seqProd H W b s.val n := by
    unfold seqAbove
    rw [if_neg (by omega)]
    congr 1; omega
  refine (congrArg (· + D (ix1 n)) (congrArg₂ (· + ·) (congrArg₂ (· + ·) (congrArg (C (ix2 0 n) * ·) p0)
    (congrArg (C (ix2 1 n) * ·) (p1.trans e1))) (congrArg (C (ix2 2 n) * ·) (p2.trans e2)))).trans ?_
  unfold seqConv
  ac_rfl

/-- One entry of the reference's gated convolution. -/
theorem term_at (H : FVec Ideal S2x8192x1024 .bf16) (W : FVec Ideal S1024x5632 .f32) (C : FVec Ideal S3x5632 .f32)
    (D : FVec Ideal S5632 .f32) (b : Fin 2) (s : Fin 8192) (n : Fin 2816) :
    term H W C D (ix3 b s n) = seqConv H W C D b s.val (⟨2816 + n.val, by omega⟩ : Fin 5632)
      * Ideal.div 1 (1 + Ideal.exp (-seqConv H W C D b s.val (⟨2816 + n.val, by omega⟩ : Fin 5632)))
      * seqConv H W C D b s.val (⟨0 + n.val, by omega⟩ : Fin 5632) := by
  pointwise [term]
  have g := convolved_at H W C D b s ⟨2816 + n.val, by omega⟩
  have v := convolved_at H W C D b s ⟨n.val, by omega⟩
  refine (congrArg₂ (fun x y => x * Ideal.div 1 (1 + Ideal.exp (-x)) * y) g v).trans ?_
  simp only [Nat.zero_add]

/-- The kernel's gate of real numbers is the reference's. -/
theorem gated_real (v x : EReal) (hv : IsReal v) (hx : IsReal x) : gated v x = x * Ideal.div 1 (1 + Ideal.exp (-x)) * v := by
  obtain ⟨v, rfl⟩ := hv
  obtain ⟨x, rfl⟩ := hx
  have e : (1 : EReal) + Ideal.exp (-(x : EReal)) = ((1 + Real.exp (-x) : ℝ) : EReal) := by
    rw [← EReal.coe_neg]
    show (1 : EReal) + ((Real.exp (-x) : ℝ) : EReal) = _
    push_cast
    rfl
  have hne : ((1 + Real.exp (-x) : ℝ) : EReal) ≠ 0 := by
    have := Real.exp_pos (-x)
    rw [Ne, EReal.coe_eq_zero]
    positivity
  have d : Ideal.div 1 ((1 + Real.exp (-x) : ℝ) : EReal) = ((1 * (1 + Real.exp (-x))⁻¹ : ℝ) : EReal) := by
    unfold Ideal.div
    rw [if_neg hne, EReal.coe_mul, EReal.coe_inv, EReal.coe_one]
  rw [e, d]
  unfold gated
  rw [half]
  have ht : Ideal.tanh ((((1 : ℝ) / 2 : ℝ) : EReal) * (x : EReal)) = ((Real.tanh (1 / 2 * x) : ℝ) : EReal) := by
    rw [← EReal.coe_mul]
    rfl
  rw [ht]
  simp only [← EReal.coe_mul, ← EReal.coe_add]
  exact congrArg _ (gate_eq v x)

/-- A product of real arguments is real. -/
theorem seqProd_real (H : FVec Ideal S2x8192x1024 .bf16) (W : FVec Ideal S1024x5632 .f32) (hH : ∀ i, IsReal (H i)) (hW : ∀ i, IsReal (W i))
    (b : Fin 2) (s : Nat) (n : Fin 5632) : IsReal (seqProd H W b s n) := by
  unfold seqProd
  by_cases h : s < 8192
  · rw [dif_pos h]
    exact IsReal.sum _ _ fun k _ => (hH _).mul (hW _)
  · rw [dif_neg h]
    exact isReal_zero

/-- So is the product some rows above. -/
theorem seqAbove_real (H : FVec Ideal S2x8192x1024 .bf16) (W : FVec Ideal S1024x5632 .f32) (hH : ∀ i, IsReal (H i)) (hW : ∀ i, IsReal (W i))
    (b : Fin 2) (back s : Nat) (n : Fin 5632) : IsReal (seqAbove H W b back s n) := by
  unfold seqAbove
  by_cases h : s < back
  · rw [if_pos h, ← zero_word]
    exact isReal_coe _
  · rw [if_neg h]
    exact seqProd_real H W hH hW b _ n

/-- So is the convolution. -/
theorem seqConv_real (H : FVec Ideal S2x8192x1024 .bf16) (W : FVec Ideal S1024x5632 .f32) (C : FVec Ideal S3x5632 .f32)
    (D : FVec Ideal S5632 .f32) (hH : ∀ i, IsReal (H i)) (hW : ∀ i, IsReal (W i)) (hC : ∀ i, IsReal (C i)) (hD : ∀ i, IsReal (D i))
    (b : Fin 2) (s : Nat) (n : Fin 5632) : IsReal (seqConv H W C D b s n) :=
  (((hD _).add ((hC _).mul (seqProd_real H W hH hW b s n))).add ((hC _).mul (seqAbove_real H W hH hW b 1 s n))).add
    ((hC _).mul (seqAbove_real H W hH hW b 2 s n))

/-- For real arguments the kernel's result is the reference's. -/
theorem result_term (H : FVec Ideal S2x8192x1024 .bf16) (W : FVec Ideal S1024x5632 .f32) (C : FVec Ideal S3x5632 .f32)
    (D : FVec Ideal S5632 .f32) (hH : ∀ i, IsReal (H i)) (hW : ∀ i, IsReal (W i)) (hC : ∀ i, IsReal (C i)) (hD : ∀ i, IsReal (D i)) :
    result H W C D = term H W C D := by
  funext i
  idx_vars i
  refine Eq.trans ?_ (term_at H W C D i0 i1 i2).symm
  exact gated_real _ _ (seqConv_real H W C D hH hW hC hD _ _ _) (seqConv_real H W C D hH hW hC hD _ _ _)

/-- What the precondition says: every argument holds real numbers. -/
theorem reals (H : FVec Ideal S2x8192x1024 .bf16) (W : FVec Ideal S1024x5632 .f32) (C : FVec Ideal S3x5632 .f32) (D : FVec Ideal S5632 .f32)
    (h : (Cert.Pre_usable2.fn (F := Ideal) H W C D).1 = (fun _ => 1#1) ∧ (Cert.Pre_usable2.fn (F := Ideal) H W C D).2.1 = (fun _ => 1#1)
      ∧ (Cert.Pre_usable2.fn (F := Ideal) H W C D).2.2.1 = (fun _ => 1#1) ∧ (Cert.Pre_usable2.fn (F := Ideal) H W C D).2.2.2 = (fun _ => 1#1)) :
    (∀ i, IsReal (H i)) ∧ (∀ i, IsReal (W i)) ∧ (∀ i, IsReal (C i)) ∧ (∀ i, IsReal (D i)) := by
  obtain ⟨h0, h1, h2, h3⟩ := h
  simp only [Cert.Pre_usable2.fn, Cert.Pre_usable2.fn_part1] at h0 h1 h2 h3
  exact ⟨isReal_of_all H _ _ _ _ ix0 (congrFun h0 ix0), isReal_of_all W _ _ _ _ ix0 (congrFun h1 ix0),
    isReal_of_all C _ _ _ _ ix0 (congrFun h2 ix0), isReal_of_all D _ _ _ _ ix0 (congrFun h3 ix0)⟩

end Cert.Reference2Ideal.FfnUp

end
-- ==== Proof.ScanReferenceRun.lean ====
/-
The reference of the scan runs a loop over the time steps on the host. None of its operations, before, in or after the loop,
writes an argument array; so the arguments keep their launch contents and the program, which declares no counter, ends quiet.
-/
module

public import proofs.«01_k».proof.Defs
public import proofs.«01_k».proof.Proof.Gen.ReferenceIdeal.Run

@[expose] public section

set_option maxRecDepth 16384

noncomputable section

open Idealize.ShloMosaic Idealize.ShloMosaic.TcCoe Idealize.SL.Sem Idealize.ShloMosaic.StableHlo

namespace Cert.ReferenceIdeal.Scan

open Cert.ReferenceIdeal Cert.ReferenceIdeal.Gen Cert.ReferenceIdeal.Value

/-- The buffers the operations after the loop write. -/
abbrev writtenAfter : List (Ref sig .tc) :=
  [main_v51, main_v52, main_v53, main_v54, main_v55, main_v56, main_v57, main_v58, main_v59, main_v60, main_v61, main_v62,
    main_cst_4, main_v63, main_v64, main_v65, main_cst_5, main_v66, main_v67, main_v68, main_cst_6, main_v69, main_v70,
    main_cst_7, main_v71, main_v72, main_v73, main_v74]

/-- The operations after the loop write those buffers only. -/
theorem after_writes : (hostOps0_1 : List (HloOp τ sig (Elt Ideal))).Forall fun op =>
    op.writes ⊆ (writtenAfter.map (Proc.devRef (τ := τ) .tc)).toFinset :=
  StableHlo.forall_writes_sub_of_map rfl

/-- Every buffer some operation of the program writes. -/
abbrev written : List (Ref sig .tc) :=
  hostOps0_W ++ (condOps_W ++ (while0Ops0_W ++ (while0Ops0_1_W ++ (while0Ops0_2_W ++ (while0Ops0_3_W ++ (while0Ops0_4_W
    ++ (while0Ops0_5_W ++ writtenAfter)))))))

/-- The argument arrays are not among them. -/
theorem args_not_written : ∀ r ∈ [main_arg0, main_arg1, main_arg2, main_arg3, main_arg4, main_arg5, main_arg6, main_arg7,
    main_arg8], r ∉ written := by decide

variable (m : (ℓ : Loc nD τ sig) → Buf (Elt Ideal) ℓ)

/-- A buffer no operation writes holds its launch contents after `k` trips. -/
theorem atK_kept (c : Dev nD) {r : Ref sig .tc} (hr : r ∉ written) : ∀ k,
    atK m k c (Proc.devRef .tc r) = m ((c.tc : Thread nD τ).loc r) := by
  simp only [written, List.mem_append, not_or] at hr
  obtain ⟨h0, hc, h1, h2, h3, h4, h5, h6, -⟩ := hr
  intro k
  induction k with
  | zero => exact after_of_writes_sub _ _ hostOps0_writes h0
  | succ k ih =>
    rw [atK, atTrip_succ]
    simp only [afterL_cons, afterL_nil]
    rw [after_of_writes_sub _ _ while0Ops0_5_writes h6, after_of_writes_sub _ _ while0Ops0_4_writes h5,
      after_of_writes_sub _ _ while0Ops0_3_writes h4, after_of_writes_sub _ _ while0Ops0_2_writes h3,
      after_of_writes_sub _ _ while0Ops0_1_writes h2, after_of_writes_sub _ _ while0Ops0_writes h1,
      after_of_writes_sub _ _ condOps_writes hc]
    exact ih

/-- A buffer no operation writes ends at its launch contents. -/
theorem final_kept (c : Dev nD) {r : Ref sig .tc} (hr : r ∉ written) :
    finalContents condOps preI bodyI postI 8192 m c (Proc.devRef .tc r) = m ((c.tc : Thread nD τ).loc r) := by
  have h := atK_kept m c hr 8192
  simp only [written, List.mem_append, not_or] at hr
  obtain ⟨-, hc, -, -, -, -, -, -, h7⟩ := hr
  unfold finalContents
  simp only [afterL_cons, afterL_nil]
  rw [after_of_writes_sub _ _ after_writes h7, after_of_writes_sub _ _ condOps_writes hc]
  exact h

/-- The reference of the scan terminates with its arguments unchanged and no signal outstanding. -/
theorem frame : Cert.quiescent_ReferenceIdeal := fun m ρ _ =>
  (θ_run Cert.ReferenceIdeal.defs _ _).mono (fun r h =>
      ⟨fun c => ⟨(h c main_arg0 rfl).trans (final_kept m c (args_not_written _ (by decide))),
        (h c main_arg1 rfl).trans (final_kept m c (args_not_written _ (by decide))),
        (h c main_arg2 rfl).trans (final_kept m c (args_not_written _ (by decide))),
        (h c main_arg3 rfl).trans (final_kept m c (args_not_written _ (by decide))),
        (h c main_arg4 rfl).trans (final_kept m c (args_not_written _ (by decide))),
        (h c main_arg5 rfl).trans (final_kept m c (args_not_written _ (by decide))),
        (h c main_arg6 rfl).trans (final_kept m c (args_not_written _ (by decide))),
        (h c main_arg7 rfl).trans (final_kept m c (args_not_written _ (by decide))),
        (h c main_arg8 rfl).trans (final_kept m c (args_not_written _ (by decide)))⟩,
      sem_eq_zero_of_no_sems (by decide) r.2⟩)
    (run_fold (F := Ideal) m ρ)

end Cert.ReferenceIdeal.Scan

end

end
-- ==== Proof.SsmIn.lean ====
/-
  The product that feeds the state space scan (program 7): the kernel's result array is the product of the rows with the weights.
-/
module

public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel7Ideal.SsmIn

open Cert.Kernel7Ideal Cert.Kernel7Ideal.Gen

variable (m : (ℓ : Loc nD τ sig) → Buf (Elt Ideal) ℓ)

/-- The product of the rows with the weights. -/
abbrev product (A : FVec Ideal Cert.Reference7Ideal.S2x8192x1024 .bf16) (W : FVec Ideal Cert.Reference7Ideal.S1024x1024 .f32) : FVec Ideal Cert.Reference7Ideal.S2x8192x1024 .f32 :=
  Host.dotGeneral Cert.Reference7Ideal.dot_S2x8192x1024_S1024x1024_S2x8192x1024_2_0_01_1_n_n none (extf .f32 A Cert.Reference7Ideal.Gen.bitsLt_bf16_f32) W

/-- Which block each window of the kernel names at each grid point. -/
theorem places : ∀ t : Fin cfg0.N, win0_0.index t = ![t.val / 8, t.val % 8, 0] ∧ win0_1.index t = ![0, 0]
    ∧ win0_2.index t = ![t.val / 8, t.val % 8, 0] :=
  (by decide +kernel : ∀ t : Fin grid0.N, _)

/-- The result array after the run holds the product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, product]
  blk_point [iblk, V, places t]

end Cert.Kernel7Ideal.SsmIn

end
-- ==== Proof.ResidualRows.lean ====
/-
  The two arrays every gated residual product of the layer hands on, written in the operations of the references: the
  residual stream `x + gate * r`, and the stream after its norm, scale and shift.
-/
module

public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ResidualRows

open Cert.Reference4Ideal Cert.Reference4Ideal.Gen

/-- The residual stream: `x + gate * r`, the gate one row per sequence. -/
abbrev stream (R X : FVec Ideal S2x8192x1024 .f32) (G : FVec Ideal S2x1x1024 .f32) : FVec Ideal S2x8192x1024 .f32 :=
  addf X (mulf (broadcastInDim S2x8192x1024 ![0, 1, 2] bcast_S2x1x1024_S2x8192x1024_0_1_2 G) R)

/-- A row divided by the root of its mean square, times the norm's weight, times one plus the scale, plus the shift. -/
abbrev normed (Y : FVec Ideal S2x8192x1024 .f32) (N : FVec Ideal S1x1024 .f32) (SH SC : FVec Ideal S2x1x1024 .f32) :
    FVec Ideal S2x8192x1024 .bf16 :=
  truncf .bf16 (addf (mulf (mulf (mulf Y (broadcastInDim S2x8192x1024 ![0, 1, 2] bcast_S2x8192x1_S2x8192x1024_0_1_2
    (Host.rsqrt (addf (Host.divf (broadcastInDim S2x8192x1 ![0, 1] bcast_S2x8192_S2x8192x1_0_1
      (Host.reduceAdd (mulf Y Y) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2
      (broadcastInDim S1x1x1024 ![1, 2] bcast_S1x1024_S1x1x1024_1_2 N)))
    (broadcastInDim S2x8192x1024 ![0, 1, 2] bcast_S2x1x1024_S2x8192x1024_0_1_2
      (addf (broadcastInDim S2x1x1024 ![] bcast_S_S2x1x1024 (constant S_ .f32 0x3F800000#32)) SC)))
    (broadcastInDim S2x8192x1024 ![0, 1, 2] bcast_S2x1x1024_S2x8192x1024_0_1_2 SH)) bitsLt_bf16_f32

end Cert.ResidualRows

end
-- ==== Proof.AttnOut.lean ====
/-
  The gated residual product after the attention (program 6): the kernel's two result arrays hold the reference's stream and
  its normed stream.
-/
module

public import proofs.«01_k».proof.Proof.Gen.Kernel6Ideal.Value
public import proofs.«01_k».proof.Proof.Gen.Reference6Ideal.Run
public import proofs.«01_k».proof.Proof.ResidualRows

@[expose] public section

set_option maxRecDepth 16384

noncomputable section

open Idealize.ShloMosaic Idealize.ShloMosaic.TcCoe Idealize.SL.Sem
open Idealize.ShloMosaic.Pipeline (Dat)

namespace Cert.Kernel6Ideal.AttnOut

open Cert.Kernel6Ideal Cert.Kernel6Ideal.Gen Cert.ResidualRows

variable (m : (ℓ : Loc nD τ sig) → Buf (Elt Ideal) ℓ)

/-- The product of the rows with the weights. -/
abbrev product (A : FVec Ideal Cert.Reference6Ideal.S2x8192x1024 .bf16) (W : FVec Ideal Cert.Reference6Ideal.S1024x1024 .f32) : FVec Ideal Cert.Reference6Ideal.S2x8192x1024 .f32 :=
  Host.dotGeneral Cert.Reference6Ideal.dot_S2x8192x1024_S1024x1024_S2x8192x1024_2_0_01_1_n_n none (extf .f32 A Cert.Reference6Ideal.Gen.bitsLt_bf16_f32) W

/-- The stream this call hands on, of its arguments. -/
abbrev out (A : FVec Ideal Cert.Reference6Ideal.S2x8192x1024 .bf16) (W : FVec Ideal Cert.Reference6Ideal.S1024x1024 .f32) (X : FVec Ideal Cert.Reference6Ideal.S2x8192x1024 .f32)
    (G : FVec Ideal Cert.Reference6Ideal.S2x1x1024 .f32) : FVec Ideal Cert.Reference6Ideal.S2x8192x1024 .f32 := stream (product A W) X G

/-- Which block each window of the kernel names at each grid point. -/
theorem places : ∀ t : Fin cfg0.N, win0_0.index t = ![t.val / 8, t.val % 8, 0] ∧ win0_1.index t = ![0, 0]
    ∧ win0_2.index t = ![t.val / 8, t.val % 8, 0] ∧ win0_3.index t = ![t.val / 8, 0, 0] ∧ win0_4.index t = ![0, 0]
    ∧ win0_5.index t = ![t.val / 8, 0, 0] ∧ win0_6.index t = ![t.val / 8, 0, 0]
    ∧ win0_7.index t = ![t.val / 8, t.val % 8, 0] ∧ win0_8.index t = ![t.val / 8, t.val % 8, 0] :=
  (by decide +kernel : ∀ t : Fin grid0.N, _)

/-- The first result array after the run: the residual stream. -/
theorem final_stream (c : Dev nD) : (dats m 0 c).arrAt 7 cfg0.N
    = out (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t _ y => ?_
  blk_simp
  rw [after0_7]; frame_out
  pointwise [k0_pay2, k0_pay3, out, product, stream]
  blk_point [iblk, V, places t]

/-- The second result array after the run: the stream normed, scaled and shifted. -/
theorem final_normed (c : Dev nD) : (dats m 0 c).arrAt 8 cfg0.N
    = normed (out (m ((c : Thread nD τ).loc main_arg0)) (m ((c : Thread nD τ).loc main_arg1)) (m ((c : Thread nD τ).loc main_arg2))
        (m ((c : Thread nD τ).loc main_arg3))) (m ((c : Thread nD τ).loc main_arg4)) (m ((c : Thread nD τ).loc main_arg5))
        (m ((c : Thread nD τ).loc main_arg6)) := by
  refine (dats m 0 c).arrAt_eq_of_covers 8 _ (by decide +kernel) fun t _ y => ?_
  blk_simp
  rw [after0_8]; frame_out
  pointwise [k0_pay1, k0_pay2, k0_pay4, k0_pay5, k0_pay6, k0_pay7, normed, out, product, stream]
  blk_point [iblk, V, places t]

end Cert.Kernel6Ideal.AttnOut

end
-- ==== Proof.Sigmoid.lean ====
/-
The logistic function by way of the hyperbolic tangent: `1/2 · tanh (x/2) + 1/2 = 1 / (1 + exp (−x))` at every extended real.
-/
module

public import Idealize.ShloMosaic.PureOps.Ideal
public import Mathlib.Analysis.SpecialFunctions.Trigonometric.DerivHyp

@[expose] public section

noncomputable section

open Idealize.ShloMosaic

namespace Cert.Sigmoid

/-- The word of one half. -/
theorem half : Ideal.ofBits .f32 0x3F000000#32 = (((1 : ℝ) / 2 : ℝ) : EReal) := by
  simp [Ideal.ofBits, Ideal.ieee, -EReal.coe_mul]
  norm_num

/-- The two forms agree at the real numbers. -/
theorem real (x : ℝ) : 1 / 2 * Real.tanh (1 / 2 * x) + 1 / 2 = 1 * (1 + Real.exp (-x))⁻¹ := by
  rw [Real.tanh_eq_sinh_div_cosh, Real.sinh_eq, Real.cosh_eq]
  have e1 : Real.exp (-x) = Real.exp (-(1 / 2 * x)) * Real.exp (-(1 / 2 * x)) := by rw [← Real.exp_add]; ring_nf
  have e2 : Real.exp (1 / 2 * x) * Real.exp (-(1 / 2 * x)) = 1 := by rw [← Real.exp_add]; simp
  have hp := Real.exp_pos (1 / 2 * x)
  have hn := Real.exp_pos (-(1 / 2 * x))
  rw [e1]
  generalize Real.exp (1 / 2 * x) = a at *
  generalize Real.exp (-(1 / 2 * x)) = b at *
  have h1 : (1 + b * b) ≠ 0 := by positivity
  have h2 : a + b ≠ 0 := by positivity
  field_simp
  linear_combination 2 * b * e2

/-- The two forms agree everywhere, the infinities included. -/
theorem logistic_tanh (x : EReal) : Ideal.ofBits .f32 0x3F000000#32 * Ideal.tanh (Ideal.ofBits .f32 0x3F000000#32 * x)
      + Ideal.ofBits .f32 0x3F000000#32
    = Ideal.div 1 (1 + Ideal.exp (-x)) := by
  rw [half, ← EReal.coe_one]
  have hdiv : ∀ a b : EReal, b ≠ 0 → Ideal.div a b = a * b⁻¹ := fun a b h => if_neg h
  have tb : Ideal.tanh ⊥ = ((-1 : ℝ) : EReal) := rfl
  have tt : Ideal.tanh ⊤ = ((1 : ℝ) : EReal) := rfl
  have eb : Ideal.exp ⊥ = ((0 : ℝ) : EReal) := rfl
  have et : Ideal.exp ⊤ = ⊤ := rfl
  have tr : ∀ r : ℝ, Ideal.tanh (r : EReal) = (Real.tanh r : EReal) := fun r => rfl
  have er : ∀ r : ℝ, Ideal.exp (r : EReal) = (Real.exp r : EReal) := fun r => rfl
  induction x using EReal.rec with
  | bot =>
    rw [EReal.coe_mul_bot_of_pos (by norm_num), EReal.neg_bot, tb, et, EReal.coe_add_top, hdiv _ _ EReal.top_ne_zero,
      EReal.inv_top, mul_zero, ← EReal.coe_mul, ← EReal.coe_add]
    norm_num
  | top =>
    rw [EReal.coe_mul_top_of_pos (by norm_num), EReal.neg_top, tt, eb, ← EReal.coe_add, hdiv _ _ (by norm_num),
      ← EReal.coe_inv, ← EReal.coe_mul, ← EReal.coe_mul, ← EReal.coe_add]
    norm_num
  | coe r =>
    have hp : (1 : ℝ) + Real.exp (-r) ≠ 0 := by positivity
    rw [← EReal.coe_mul, ← EReal.coe_neg, tr, er, ← EReal.coe_add, hdiv _ _ (by exact_mod_cast hp), ← EReal.coe_inv,
      ← EReal.coe_mul, ← EReal.coe_mul, ← EReal.coe_add, real r]

end Cert.Sigmoid

end
-- ==== Proof.SsmGlu.lean ====
/-
  The gated product after the state space scan (program 5): the kernel's two result arrays hold the reference's stream and its
  normed stream.
-/
module

public import proofs.«01_k».proof.Proof.Gen.Kernel5Ideal.Value
public import proofs.«01_k».proof.Proof.Gen.Reference5Ideal.Run
public import proofs.«01_k».proof.Proof.ResidualRows
public import proofs.«01_k».proof.Proof.Sigmoid

@[expose] public section

set_option maxRecDepth 16384

noncomputable section

open Idealize.ShloMosaic Idealize.ShloMosaic.TcCoe Idealize.SL.Sem
open Idealize.ShloMosaic.Pipeline (Dat)

namespace Cert.Kernel5Ideal.SsmGlu

open Cert.Kernel5Ideal Cert.Kernel5Ideal.Gen Cert.ResidualRows

variable (m : (ℓ : Loc nD τ sig) → Buf (Elt Ideal) ℓ)

/-- The product of the rows with the weights: values in the first half of the columns, gates in the second. -/
abbrev both (A : FVec Ideal Cert.Reference5Ideal.S2x8192x1024 .bf16) (W : FVec Ideal Cert.Reference5Ideal.S1024x2048 .f32) : FVec Ideal Cert.Reference5Ideal.S2x8192x2048 .f32 :=
  Host.dotGeneral Cert.Reference5Ideal.dot_S2x8192x1024_S1024x2048_S2x8192x2048_2_0_01_1_n_n none (extf .f32 A Cert.Reference5Ideal.Gen.bitsLt_bf16_f32) W

/-- The values times the logistic function of the gates. -/
abbrev product (A : FVec Ideal Cert.Reference5Ideal.S2x8192x1024 .bf16) (W : FVec Ideal Cert.Reference5Ideal.S1024x2048 .f32) : FVec Ideal Cert.Reference5Ideal.S2x8192x1024 .f32 :=
  mulf (extractStridedSlice Cert.Reference5Ideal.S2x8192x1024 ![0, 0, 0] (both A W) Cert.Reference5Ideal.Gen.slices_S2x8192x2048_S2x8192x1024_0_0_0)
    (Host.divf (broadcastInDim Cert.Reference5Ideal.S2x8192x1024 ![] Cert.Reference5Ideal.Gen.bcast_S_S2x8192x1024 (constant Cert.Reference5Ideal.S_ .f32 0x3F800000#32))
      (addf (broadcastInDim Cert.Reference5Ideal.S2x8192x1024 ![] Cert.Reference5Ideal.Gen.bcast_S_S2x8192x1024 (constant Cert.Reference5Ideal.S_ .f32 0x3F800000#32))
        (Host.exp (Host.negf (extractStridedSlice Cert.Reference5Ideal.S2x8192x1024 ![0, 0, 1024] (both A W)
          Cert.Reference5Ideal.Gen.slices_S2x8192x2048_S2x8192x1024_0_0_1024)))))

/-- The stream this call hands on, of its arguments. -/
abbrev out (A : FVec Ideal Cert.Reference5Ideal.S2x8192x1024 .bf16) (W : FVec Ideal Cert.Reference5Ideal.S1024x2048 .f32) (X : FVec Ideal Cert.Reference5Ideal.S2x8192x1024 .f32)
    (G : FVec Ideal Cert.Reference5Ideal.S2x1x1024 .f32) : FVec Ideal Cert.Reference5Ideal.S2x8192x1024 .f32 := stream (product A W) X G

/-- Which block each window of the kernel names at each grid point. -/
theorem places : ∀ t : Fin cfg0.N, win0_0.index t = ![t.val / 8, t.val % 8, 0] ∧ win0_1.index t = ![0, 0]
    ∧ win0_2.index t = ![t.val / 8, t.val % 8, 0] ∧ win0_3.index t = ![t.val / 8, 0, 0] ∧ win0_4.index t = ![0, 0]
    ∧ win0_5.index t = ![t.val / 8, 0, 0] ∧ win0_6.index t = ![t.val / 8, 0, 0]
    ∧ win0_7.index t = ![t.val / 8, t.val % 8, 0] ∧ win0_8.index t = ![t.val / 8, t.val % 8, 0] :=
  (by decide +kernel : ∀ t : Fin grid0.N, _)

/-- The first result array after the run: the residual stream. -/
theorem final_stream (c : Dev nD) : (dats m 0 c).arrAt 7 cfg0.N
    = out (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t _ y => ?_
  blk_simp
  rw [after0_7]; frame_out
  pointwise [k0_pay2, k0_pay3, out, product, stream]
  simp only [Cert.Sigmoid.logistic_tanh]
  blk_point [iblk, V, places t]

/-- The second result array after the run: the stream normed, scaled and shifted. -/
theorem final_normed (c : Dev nD) : (dats m 0 c).arrAt 8 cfg0.N
    = normed (out (m ((c : Thread nD τ).loc main_arg0)) (m ((c : Thread nD τ).loc main_arg1)) (m ((c : Thread nD τ).loc main_arg2))
        (m ((c : Thread nD τ).loc main_arg3))) (m ((c : Thread nD τ).loc main_arg4)) (m ((c : Thread nD τ).loc main_arg5))
        (m ((c : Thread nD τ).loc main_arg6)) := by
  refine (dats m 0 c).arrAt_eq_of_covers 8 _ (by decide +kernel) fun t _ y => ?_
  blk_simp
  rw [after0_8]; frame_out
  pointwise [k0_pay1, k0_pay2, k0_pay4, k0_pay5, k0_pay6, normed, out, product, stream]
  simp only [Cert.Sigmoid.logistic_tanh]
  blk_point [iblk, V, places t]

end Cert.Kernel5Ideal.SsmGlu

end
-- ==== Proof.FfnDownInner.lean ====
/-
  The gated residual product that ends the first layer's feed-forward part (program 4): the kernel's two result arrays hold
  the reference's stream and its normed stream.
-/
module

public import proofs.«01_k».proof.Proof.Gen.Kernel4Ideal.Value
public import proofs.«01_k».proof.Proof.Gen.Reference4Ideal.Run
public import proofs.«01_k».proof.Proof.ResidualRows

@[expose] public section

set_option maxRecDepth 16384

noncomputable section

open Idealize.ShloMosaic Idealize.ShloMosaic.TcCoe Idealize.SL.Sem
open Idealize.ShloMosaic.Pipeline (Dat)

namespace Cert.Kernel4Ideal.FfnDown

open Cert.Kernel4Ideal Cert.Kernel4Ideal.Gen Cert.ResidualRows

variable (m : (ℓ : Loc nD τ sig) → Buf (Elt Ideal) ℓ)

/-- The product of the rows with the weights. -/
abbrev product (A : FVec Ideal Cert.Reference4Ideal.S2x8192x2816 .bf16) (W : FVec Ideal Cert.Reference4Ideal.S2816x1024 .f32) : FVec Ideal Cert.Reference4Ideal.S2x8192x1024 .f32 :=
  Host.dotGeneral Cert.Reference4Ideal.dot_S2x8192x2816_S2816x1024_S2x8192x1024_2_0_01_1_n_n none (extf .f32 A Cert.Reference4Ideal.Gen.bitsLt_bf16_f32) W

/-- The stream this call hands on, of its arguments. -/
abbrev out (A : FVec Ideal Cert.Reference4Ideal.S2x8192x2816 .bf16) (W : FVec Ideal Cert.Reference4Ideal.S2816x1024 .f32) (X : FVec Ideal Cert.Reference4Ideal.S2x8192x1024 .f32)
    (G : FVec Ideal Cert.Reference4Ideal.S2x1x1024 .f32) : FVec Ideal Cert.Reference4Ideal.S2x8192x1024 .f32 := stream (product A W) X G

/-- Which block each window of the kernel names at each grid point. -/
theorem places : ∀ t : Fin cfg0.N, win0_0.index t = ![t.val / 8, t.val % 8, 0] ∧ win0_1.index t = ![0, 0]
    ∧ win0_2.index t = ![t.val / 8, t.val % 8, 0] ∧ win0_3.index t = ![t.val / 8, 0, 0] ∧ win0_4.index t = ![0, 0]
    ∧ win0_5.index t = ![t.val / 8, 0, 0] ∧ win0_6.index t = ![t.val / 8, 0, 0]
    ∧ win0_7.index t = ![t.val / 8, t.val % 8, 0] ∧ win0_8.index t = ![t.val / 8, t.val % 8, 0] :=
  (by decide +kernel : ∀ t : Fin grid0.N, _)

/-- The first result array after the run: the residual stream. -/
theorem final_stream (c : Dev nD) : (dats m 0 c).arrAt 7 cfg0.N
    = out (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t _ y => ?_
  blk_simp
  rw [after0_7]; frame_out
  pointwise [k0_pay2, k0_pay3, out, product, stream]
  blk_point [iblk, V, places t]

/-- The second result array after the run: the stream normed, scaled and shifted. -/
theorem final_normed (c : Dev nD) : (dats m 0 c).arrAt 8 cfg0.N
    = normed (out (m ((c : Thread nD τ).loc main_arg0)) (m ((c : Thread nD τ).loc main_arg1)) (m ((c : Thread nD τ).loc main_arg2))
        (m ((c : Thread nD τ).loc main_arg3))) (m ((c : Thread nD τ).loc main_arg4)) (m ((c : Thread nD τ).loc main_arg5))
        (m ((c : Thread nD τ).loc main_arg6)) := by
  refine (dats m 0 c).arrAt_eq_of_covers 8 _ (by decide +kernel) fun t _ y => ?_
  blk_simp
  rw [after0_8]; frame_out
  pointwise [k0_pay1, k0_pay2, k0_pay4, k0_pay5, k0_pay6, k0_pay7, normed, out, product, stream]
  blk_point [iblk, V, places t]

end Cert.Kernel4Ideal.FfnDown

end
-- ==== Proof.AttnProjTile.lean ====
/-
  The projection into the attention (program 8): the two products a grid point forms of its tile of rows — with the columns of
  queries, keys and values, and with the columns of the index — are the reference's one product, read there.
-/
module

public import proofs.«01_k».proof.Proof.Gen.Kernel8Ideal.Value
public import proofs.«01_k».proof.Proof.Gen.Reference8Ideal.Run
public import proofs.«01_k».proof.Proof.RealValues
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.RealValues

namespace Cert.Reference8Ideal.AttnProj

open Cert.Reference8Ideal Cert.Reference8Ideal.Gen

/-- The rows entering the projection: normed, scaled and shifted. -/
def rows (X : FVec Ideal S2x8192x1024 .f32) (N : FVec Ideal S1x1024 .f32) (SH SC : FVec Ideal S2x1x1024 .f32) :
    FVec Ideal S2x8192x1024 .f32 :=
  addf (mulf (mulf (mulf X (broadcastInDim S2x8192x1024 ![0, 1, 2] bcast_S2x8192x1_S2x8192x1024_0_1_2
    (Host.rsqrt (addf (Host.divf (broadcastInDim S2x8192x1 ![0, 1] bcast_S2x8192_S2x8192x1_0_1
      (Host.reduceAdd (mulf X X) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2
      (broadcastInDim S1x1x1024 ![1, 2] bcast_S1x1024_S1x1x1024_1_2 N)))
    (broadcastInDim S2x8192x1024 ![0, 1, 2] bcast_S2x1x1024_S2x8192x1024_0_1_2
      (addf (broadcastInDim S2x1x1024 ![] bcast_S_S2x1x1024 (constant S_ .f32 0x3F800000#32)) SC)))
    (broadcastInDim S2x8192x1024 ![0, 1, 2] bcast_S2x1x1024_S2x8192x1024_0_1_2 SH)

/-- The projection of the rows: queries, keys, values, then the index's queries, keys and weights, side by side. -/
def proj (X : FVec Ideal S2x8192x1024 .f32) (N : FVec Ideal S1x1024 .f32) (SH SC : FVec Ideal S2x1x1024 .f32)
    (W : FVec Ideal S1024x3656 .f32) : FVec Ideal S2x8192x3656 .f32 :=
  Host.dotGeneral dot_S2x8192x1024_S1024x3656_S2x8192x3656_2_0_01_1_n_n none (rows X N SH SC) W

/-- One entry of the projection is the sum of a row's products with a column. -/
theorem proj_at (X : FVec Ideal S2x8192x1024 .f32) (N : FVec Ideal S1x1024 .f32) (SH SC : FVec Ideal S2x1x1024 .f32)
    (W : FVec Ideal S1024x3656 .f32) (b : Fin 2) (s : Fin 8192) (n : Fin 3656) :
    proj X N SH SC W (ix3 b s n) = ∑ k : Fin 1024, rows X N SH SC (ix3 b s k) * W (ix2 k n) := by
  pointwise [proj]

end Cert.Reference8Ideal.AttnProj

namespace Cert.Kernel8Ideal.AttnProj

open Cert.Kernel8Ideal Cert.Kernel8Ideal.Gen Cert.Reference8Ideal.AttnProj

variable (m : (ℓ : Loc nD τ sig) → Buf (Elt Ideal) ℓ)

/-- A real number less itself is zero. -/
theorem sub_self_of_real {x : EReal} (h : IsReal x) : x - x = 0 := by
  obtain ⟨r, rfl⟩ := h
  rw [← EReal.coe_sub, sub_self, EReal.coe_zero]

/-- A product formed in three parts, two of them with a remainder that is zero. -/
theorem three_parts {h' w' z : Fin 1024 → EReal} (h w : Fin 1024 → EReal) (hr : ∀ x, IsReal (h x))
    (eh : ∀ x, h' x = h x) (ew : ∀ x, w' x = w x) (ez : ∀ x, z x = 0) :
    ∑ x, h' x * w' x + ∑ x, (h' x - h' x) * w' x + ∑ x, h' x * z x = ∑ x, h x * w x := by
  simp only [eh, ew, ez, sub_self_of_real (hr _), zero_mul, mul_zero, Finset.sum_const_zero, add_zero]

/-- Which block each window of the kernel names at each grid point. -/
theorem places : ∀ t : Fin cfg0.N, win0_0.index t = ![t.val / 16, t.val % 16, 0] ∧ win0_1.index t = ![0, 0]
    ∧ win0_2.index t = ![t.val / 16, 0, 0] ∧ win0_3.index t = ![t.val / 16, 0, 0] ∧ win0_4.index t = ![0, 0]
    ∧ win0_5.index t = ![0, 0] ∧ win0_6.index t = ![0, 0] ∧ win0_7.index t = ![t.val / 16, t.val % 16, 0]
    ∧ win0_8.index t = ![t.val / 16, t.val % 16, 0] ∧ win0_9.index t = ![t.val / 16, t.val % 16, 0]
    ∧ win0_10.index t = ![t.val / 16, t.val % 16, 0] ∧ win0_11.index t = ![t.val / 16, t.val % 16, 0]
    ∧ win0_12.index t = ![t.val / 16, t.val % 16, 0] ∧ (grid0.coords t 1).val = t.val % 16 :=
  (by decide +kernel : ∀ t : Fin grid0.N, _)

/-- The rows of the reference at the arguments of the run. -/
abbrev argRows (c : Dev nD) : FVec Ideal Cert.Reference8Ideal.S2x8192x1024 .f32 :=
  rows (m ((c : Thread nD τ).loc main_arg0)) (m ((c : Thread nD τ).loc main_arg1)) (m ((c : Thread nD τ).loc main_arg2))
    (m ((c : Thread nD τ).loc main_arg3))

/-- The projection of the reference at the arguments of the run. -/
abbrev argProj (c : Dev nD) : FVec Ideal Cert.Reference8Ideal.S2x8192x3656 .f32 :=
  proj (m ((c : Thread nD τ).loc main_arg0)) (m ((c : Thread nD τ).loc main_arg1)) (m ((c : Thread nD τ).loc main_arg2))
    (m ((c : Thread nD τ).loc main_arg3)) (m ((c : Thread nD τ).loc main_arg4))

/-- A grid point's tile of rows is the reference's rows, read there. -/
theorem rows_at (c : Dev nD) (t : Fin cfg0.N) (r : Fin 512) (k : Fin 1024) (b : Fin 2) (s : Fin 8192)
    (hb : b.val = t.val / 16) (hs : s.val = t.val % 16 * 512 + r.val) :
    k0_pay5 (F := Ideal) (iblk m c 0 t) (iblk m c 1 t) (iblk m c 2 t) (iblk m c 3 t) (ix2 r k) = argRows m c (ix3 b s k) := by
  pointwise [k0_pay5, argRows, rows]
  blk_point [iblk, V, places t]

/-- The columns of queries, keys and values. -/
def weightQkv (W : FVec Ideal S1024x3656 .f32) : FVec Ideal S1024x3072 .bf16 :=
  truncf .bf16 (extractStridedSlice S1024x3072 ![0, 0] W slices_S1024x3656_S1024x3072_0_0) bitsLt_bf16_f32

/-- The columns of the index, padded with zero columns to whole lanes. -/
def weightIdx (W : FVec Ideal S1024x3656 .f32) : FVec Ideal S1024x640 .f32 :=
  pad S1024x640 ![0, 0] ![0, 56] ![0, 0] (extractStridedSlice S1024x584 ![0, 3072] W slices_S1024x3656_S1024x584_0_3072)
    (sitofp .f32 (constantI S_ 32 0#32)) pads_S1024x584_S1024x640_000_0560 h_S_

/-- What the format change leaves of the columns of the index: nothing, in exact arithmetic. -/
def weightRest (W : FVec Ideal S1024x3656 .f32) : FVec Ideal S1024x640 .bf16 :=
  truncf .bf16 (subf (weightIdx W) (extf .f32 (truncf .bf16 (weightIdx W) bitsLt_bf16_f32) bitsLt_bf16_f32)) bitsLt_bf16_f32

/-- One of the columns of queries, keys and values. -/
theorem weightQkv_at (W : FVec Ideal S1024x3656 .f32) (k : Fin 1024) (n : Fin 3072) :
    weightQkv W (ix2 k n) = W (ix2 k (⟨n.val, by omega⟩ : Fin 3656)) := by
  pointwise [weightQkv]

/-- One of the columns of the index. -/
theorem weightIdx_at (W : FVec Ideal S1024x3656 .f32) (k : Fin 1024) (n : Fin 640) (hn : n.val < 584) :
    weightIdx W (ix2 k n) = W (ix2 k (⟨3072 + n.val, by omega⟩ : Fin 3656)) := by
  pointwise [weightIdx]
  blk_point
  exact absurd hn ‹_›

/-- A remainder is a column less itself. -/
theorem weightRest_at (W : FVec Ideal S1024x3656 .f32) (k : Fin 1024) (n : Fin 640) :
    weightRest W (ix2 k n) = weightIdx W (ix2 k n) - weightIdx W (ix2 k n) := by
  pointwise [weightRest]

/-- The kernel's fifth window opens on the columns of queries, keys and values. -/
theorem entry4 (c : Dev nD) : V m c main_v1 = weightQkv (m ((c : Thread nD τ).loc main_arg4)) := by
  unfold V
  simp only [List.flatten_cons, List.flatten_nil, List.append_nil, List.cons_append, List.nil_append]
  after_results_simp
  rfl

/-- Its sixth on the columns of the index. -/
theorem entry5 (c : Dev nD) : V m c main_v4 = (truncf .bf16 (weightIdx (m ((c : Thread nD τ).loc main_arg4))) bitsLt_bf16_f32 : FVec Ideal S1024x640 .bf16) := by
  unfold V
  simp only [List.flatten_cons, List.flatten_nil, List.append_nil, List.cons_append, List.nil_append]
  after_results_simp
  rfl

/-- Its seventh on what the format change leaves of them. -/
theorem entry6 (c : Dev nD) : V m c main_v7 = weightRest (m ((c : Thread nD τ).loc main_arg4)) := by
  unfold V
  simp only [List.flatten_cons, List.flatten_nil, List.append_nil, List.cons_append, List.nil_append]
  after_results_simp
  rfl

/-- The fifth window's block at every point: the columns of queries, keys and values. -/
theorem block4 (c : Dev nD) (t : Fin cfg0.N) (k : Fin 1024) (n : Fin 3072) :
    (iblk m c 4 t : FVec Ideal S1024x3072 .bf16) (ix2 k n)
      = (m ((c : Thread nD τ).loc main_arg4) : FVec Ideal S1024x3656 .f32) (ix2 k (⟨n.val, by omega⟩ : Fin 3656)) := by
  have e : ((cfg0.win 4).blk t).view.emb (ix2 k n) = ix2 k n := by blk_ext [places t]
  unfold iblk
  exact ((congrArg (V m c main_v1) e).trans (congrFun (entry4 m c) _)).trans (weightQkv_at _ k n)

/-- The sixth window's block: the columns of the index. -/
theorem block5 (c : Dev nD) (t : Fin cfg0.N) (k : Fin 1024) (n : Fin 640) :
    (iblk m c 5 t : FVec Ideal S1024x640 .bf16) (ix2 k n) = weightIdx (m ((c : Thread nD τ).loc main_arg4)) (ix2 k n) := by
  have e : ((cfg0.win 5).blk t).view.emb (ix2 k n) = ix2 k n := by blk_ext [places t]
  unfold iblk
  exact (congrArg (V m c main_v4) e).trans (congrFun (entry5 m c) _)

/-- The seventh window's block: the remainders. -/
theorem block6 (c : Dev nD) (t : Fin cfg0.N) (k : Fin 1024) (n : Fin 640) :
    (iblk m c 6 t : FVec Ideal S1024x640 .bf16) (ix2 k n)
      = weightIdx (m ((c : Thread nD τ).loc main_arg4)) (ix2 k n) - weightIdx (m ((c : Thread nD τ).loc main_arg4)) (ix2 k n) := by
  have e : ((cfg0.win 6).blk t).view.emb (ix2 k n) = ix2 k n := by blk_ext [places t]
  unfold iblk
  exact ((congrArg (V m c main_v7) e).trans (congrFun (entry6 m c) _)).trans (weightRest_at _ k n)

/-- The tile's product with the columns of queries, keys and values. -/
abbrev tileQkv (c : Dev nD) (t : Fin cfg0.N) : FVec Ideal S512x3072 .f32 :=
  k0_pay104 (grid0.coords t) (iblk m c 0 t) (iblk m c 1 t) (iblk m c 2 t) (iblk m c 3 t) (iblk m c 4 t) (iblk m c 5 t) (iblk m c 6 t)

/-- The tile's product with the columns of the index, formed in three parts. -/
abbrev tileIdx (c : Dev nD) (t : Fin cfg0.N) : FVec Ideal S512x640 .f32 :=
  k0_pay115 (grid0.coords t) (iblk m c 0 t) (iblk m c 1 t) (iblk m c 2 t) (iblk m c 3 t) (iblk m c 4 t) (iblk m c 5 t) (iblk m c 6 t)

/-- The tile's queries, keys and values are the reference's. -/
theorem tileQkv_at (c : Dev nD) (t : Fin cfg0.N) (r : Fin 512) (n : Fin 3072) (b : Fin 2) (s : Fin 8192) (n' : Fin 3656)
    (hb : b.val = t.val / 16) (hs : s.val = t.val % 16 * 512 + r.val) (hn : n'.val = n.val) :
    tileQkv m c t (ix2 r n) = argProj m c (ix3 b s n') := by
  rw [show n' = ⟨n.val, lt_of_lt_of_le n.isLt (by decide)⟩ from Fin.ext hn]
  refine Eq.trans ?_ (proj_at _ _ _ _ _ _ _ _).symm
  unfold tileQkv k0_pay104
  frame_out
  pointwise [k0_pay8, k0_pay6]
  refine Finset.sum_congr rfl fun k _ => ?_
  exact congrArg₂ (· * ·) (rows_at m c t r k b s hb hs) (block4 m c t k n)

/-- Where rows and weights are real, the tile's three-part product with the columns of the index is the reference's product:
    the two parts that carry remainders of a format change vanish. -/
theorem tileIdx_at (c : Dev nD) (t : Fin cfg0.N) (r : Fin 512) (n : Fin 640) (b : Fin 2) (s : Fin 8192) (n' : Fin 3656)
    (hb : b.val = t.val / 16) (hs : s.val = t.val % 16 * 512 + r.val) (hn : n'.val = 3072 + n.val)
    (hR : ∀ i, IsReal (argRows m c i)) (hW : ∀ i, IsReal ((m ((c : Thread nD τ).loc main_arg4) : FVec Ideal S1024x3656 .f32) i)) :
    tileIdx m c t (ix2 r n) = argProj m c (ix3 b s n') := by
  have hn' : n.val < 584 := by omega
  rw [show n' = ⟨3072 + n.val, Nat.add_lt_add_left hn' 3072⟩ from Fin.ext hn]
  refine Eq.trans ?_ (proj_at _ _ _ _ _ _ _ _).symm
  unfold tileIdx k0_pay115 k0_pay114 k0_pay103
  frame_out
  pointwise [ k0_pay64, k0_pay63, k0_pay7, k0_pay6]
  have h : ∀ x : Fin 1024, k0_pay5 (F := Ideal) (iblk m c 0 t) (iblk m c 1 t) (iblk m c 2 t) (iblk m c 3 t) (ix2 r x) = argRows m c (ix3 b s x) :=
    fun x => rows_at m c t r x b s hb hs
  have w : ∀ x : Fin 1024, (iblk m c 5 t : FVec Ideal S1024x640 .bf16) (ix2 x n)
      = (m ((c : Thread nD τ).loc main_arg4) : FVec Ideal S1024x3656 .f32) (ix2 x ⟨3072 + n.val, Nat.add_lt_add_left hn' 3072⟩) :=
    fun x => (block5 m c t x n).trans (weightIdx_at _ x n hn')
  have w' : ∀ x : Fin 1024, (iblk m c 6 t : FVec Ideal S1024x640 .bf16) (ix2 x n) = (0 : EReal) := fun x => by
    refine (block6 m c t x n).trans ?_
    rw [weightIdx_at _ x n hn']
    exact sub_self_of_real (hW _)
  exact three_parts (fun x => argRows m c (ix3 b s x)) _ (fun x => hR _) h w w'

end Cert.Kernel8Ideal.AttnProj

end
-- ==== Proof.AttnProjLayout.lean ====
/-
  The projection into the attention (program 8): the six arrays the reference lays its projection out in, entry by entry.
-/
module

public import proofs.«01_k».proof.Proof.AttnProjTile

@[expose] public section

set_option maxRecDepth 16384

noncomputable section

open Idealize.ShloMosaic Idealize.ShloMosaic.TcCoe Idealize.SL.Sem

namespace Cert.Reference8Ideal.AttnProj

open Cert.Reference8Ideal Cert.Reference8Ideal.Gen

/-- The scaled queries. -/
def queries (P : FVec Ideal S2x8192x3656 .f32) : FVec Ideal S2x8192x1024 .bf16 :=
  truncf .bf16 (mulf (extractStridedSlice S2x8192x1024 ![0, 0, 0] P slices_S2x8192x3656_S2x8192x1024_0_0_0)
    (broadcastInDim S2x8192x1024 ![] bcast_S_S2x8192x1024 (constant S_ .f32 0x3E38AA3B#32))) bitsLt_bf16_f32

/-- The first position of the chunk each position lies in, as integers. -/
def chunkStart : IVec S8192 32 :=
  muli (select (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32))))
        (broadcastInDim S8192 ![] bcast_S_S8192 (constantI S_ 32 0#32))))
    (subi (Host.divsi (iotaInDim S8192 32 0) (broadcastInDim S8192 ![] bcast_S_S8192 (id (constantI S_ 32 64#32))))
      (broadcastInDim S8192 ![] bcast_S_S8192 (constantI S_ 32 1#32)))
    (Host.divsi (iotaInDim S8192 32 0) (broadcastInDim S8192 ![] bcast_S_S8192 (id (constantI S_ 32 64#32)))))
    (broadcastInDim S8192 ![] bcast_S_S8192 (constantI S_ 32 64#32))

/-- The length of a chunk, guarded against zero as the remainder guards its divisor. -/
def divisor : IVec S_ 32 :=
  select (cmpi .eq (id (constantI S_ 32 64#32)) (constantI S_ 32 0#32)) (constantI S_ 32 1#32) (id (constantI S_ 32 64#32))

/-- The place of each position in its chunk, as integers. -/
def inChunk : IVec S8192 32 :=
  select (andi (cmpi .ne (cmpi .slt (Host.remsi (iotaInDim S8192 32 0) (broadcastInDim S8192 ![] bcast_S_S8192 divisor))
        (broadcastInDim S8192 ![] bcast_S_S8192 (constantI S_ 32 0#32)))
      (broadcastInDim S8192 ![] bcast_S_S8192 (cmpi .slt divisor (constantI S_ 32 0#32))))
    (cmpi .ne (Host.remsi (iotaInDim S8192 32 0) (broadcastInDim S8192 ![] bcast_S_S8192 divisor))
      (broadcastInDim S8192 ![] bcast_S_S8192 (constantI S_ 32 0#32))))
    (addi (Host.remsi (iotaInDim S8192 32 0) (broadcastInDim S8192 ![] bcast_S_S8192 divisor))
      (broadcastInDim S8192 ![] bcast_S_S8192 divisor))
    (Host.remsi (iotaInDim S8192 32 0) (broadcastInDim S8192 ![] bcast_S_S8192 divisor))

/-- The lanes that carry a position: two ones, three times its chunk's start, three times its place in the chunk, zeros. -/
def positions : FVec Ideal S8192x128 .f32 :=
  concatenate S8192x128 1
    [⟨S8192x2, ((broadcastInDim S8192x2 ![] bcast_S_S8192x2 (constant S_ .f32 0x3F800000#32)) : FVec Ideal S8192x2 .f32)⟩,
     ⟨S8192x3, ((broadcastInDim S8192x3 ![0, 1] bcast_S8192x1_S8192x3_0_1 (broadcastInDim S8192x1 ![0] bcast_S8192_S8192x1_0
        (sitofp .f32 chunkStart))) : FVec Ideal S8192x3 .f32)⟩,
     ⟨S8192x3, ((broadcastInDim S8192x3 ![0, 1] bcast_S8192x1_S8192x3_0_1 (broadcastInDim S8192x1 ![0] bcast_S8192_S8192x1_0
        (sitofp .f32 inChunk))) : FVec Ideal S8192x3 .f32)⟩,
     ⟨S8192x120, ((broadcastInDim S8192x120 ![] bcast_S_S8192x120 (constant S_ .f32 0x00000000#32)) : FVec Ideal S8192x120 .f32)⟩]
    concatenates_S8192x2_S8192x3_S8192x3_S8192x120_S8192x128_d1

/-- The keys, two heads to a tile of lanes, each tile followed by the lanes that carry the position. -/
def keysByHeads (P : FVec Ideal S2x8192x3656 .f32) : FVec Ideal S2x8192x8x256 .f32 :=
  concatenate S2x8192x8x256 3
    [⟨S2x8192x8x128, (shapeCast _ (extractStridedSlice S2x8192x1024 ![0, 0, 1024] P slices_S2x8192x3656_S2x8192x1024_0_0_1024)
        shapeCasts_S2x8192x1024_S2x8192x8x128)⟩,
     ⟨S2x8192x8x128, (broadcastInDim S2x8192x8x128 ![0, 1, 2, 3] bcast_S1x8192x1x128_S2x8192x8x128_0_1_2_3
        (broadcastInDim S1x8192x1x128 ![1, 3] bcast_S8192x128_S1x8192x1x128_1_3 positions))⟩]
    concatenates_S2x8192x8x128_S2x8192x8x128_S2x8192x8x256_d3

/-- The same, flat: keys. -/
def keys (P : FVec Ideal S2x8192x3656 .f32) : FVec Ideal S2x8192x2048 .bf16 :=
  truncf .bf16 (shapeCast _ (keysByHeads P) shapeCasts_S2x8192x8x256_S2x8192x2048) bitsLt_bf16_f32

/-- The values by pairs of heads. -/
def valuePairs (P : FVec Ideal S2x8192x3656 .f32) : FVec Ideal S2x8192x8x128 .f32 :=
  shapeCast _ (extractStridedSlice S2x8192x1024 ![0, 0, 2048] P slices_S2x8192x3656_S2x8192x1024_0_0_2048)
    shapeCasts_S2x8192x1024_S2x8192x8x128

/-- The values, between the two heads of a pair two half tiles of ones. -/
def valuesByHeads (P : FVec Ideal S2x8192x3656 .f32) : FVec Ideal S2x8192x8x256 .f32 :=
  concatenate S2x8192x8x256 3
    [⟨S2x8192x8x64, (extractStridedSlice S2x8192x8x64 ![0, 0, 0, 0] (valuePairs P) slices_S2x8192x8x128_S2x8192x8x64_0_0_0_0 : FVec Ideal S2x8192x8x64 .f32)⟩,
     ⟨S2x8192x8x128, (broadcastInDim S2x8192x8x128 ![] bcast_S_S2x8192x8x128 (constant S_ .f32 0x3F800000#32) : FVec Ideal S2x8192x8x128 .f32)⟩,
     ⟨S2x8192x8x64, (extractStridedSlice S2x8192x8x64 ![0, 0, 0, 64] (valuePairs P) slices_S2x8192x8x128_S2x8192x8x64_0_0_0_64 : FVec Ideal S2x8192x8x64 .f32)⟩]
    concatenates_S2x8192x8x64_S2x8192x8x128_S2x8192x8x64_S2x8192x8x256_d3

/-- The same, flat: values. -/
def values (P : FVec Ideal S2x8192x3656 .f32) : FVec Ideal S2x8192x2048 .bf16 :=
  truncf .bf16 (shapeCast _ (valuesByHeads P) shapeCasts_S2x8192x8x256_S2x8192x2048) bitsLt_bf16_f32

/-- The scaled queries of the index, by heads. -/
def indexHeads (P : FVec Ideal S2x8192x3656 .f32) : FVec Ideal S2x8192x8x64 .f32 :=
  shapeCast _ (mulf (extractStridedSlice S2x8192x512 ![0, 0, 3072] P slices_S2x8192x3656_S2x8192x512_0_0_3072)
    (broadcastInDim S2x8192x512 ![] bcast_S_S2x8192x512 (constant S_ .f32 0x3E000000#32))) shapeCasts_S2x8192x512_S2x8192x8x64

/-- The queries of the index: each head's leading part and its remainder, twice. -/
def indexQueriesByHeads (P : FVec Ideal S2x8192x3656 .f32) : FVec Ideal S2x8192x8x256 .f32 :=
  concatenate S2x8192x8x256 3
    [⟨S2x8192x8x64, (extf .f32 (truncf .bf16 (indexHeads P) bitsLt_bf16_f32) bitsLt_bf16_f32 : FVec Ideal S2x8192x8x64 .f32)⟩,
     ⟨S2x8192x8x64, (subf (indexHeads P) (extf .f32 (truncf .bf16 (indexHeads P) bitsLt_bf16_f32) bitsLt_bf16_f32) : FVec Ideal S2x8192x8x64 .f32)⟩,
     ⟨S2x8192x8x64, (extf .f32 (truncf .bf16 (indexHeads P) bitsLt_bf16_f32) bitsLt_bf16_f32 : FVec Ideal S2x8192x8x64 .f32)⟩,
     ⟨S2x8192x8x64, (subf (indexHeads P) (extf .f32 (truncf .bf16 (indexHeads P) bitsLt_bf16_f32) bitsLt_bf16_f32) : FVec Ideal S2x8192x8x64 .f32)⟩]
    concatenates_S2x8192x8x64_S2x8192x8x64_S2x8192x8x64_S2x8192x8x64_S2x8192x8x256_d3

/-- The same, flat: indexQueries. -/
def indexQueries (P : FVec Ideal S2x8192x3656 .f32) : FVec Ideal S2x8192x2048 .bf16 :=
  truncf .bf16 (shapeCast _ (indexQueriesByHeads P) shapeCasts_S2x8192x8x256_S2x8192x2048) bitsLt_bf16_f32

/-- The key of the index. -/
def indexKey (P : FVec Ideal S2x8192x3656 .f32) : FVec Ideal S2x8192x64 .f32 :=
  extractStridedSlice S2x8192x64 ![0, 0, 3584] P slices_S2x8192x3656_S2x8192x64_0_0_3584

/-- The keys of the index: the leading part twice, then the remainder twice. -/
def indexKeys (P : FVec Ideal S2x8192x3656 .f32) : FVec Ideal S2x8192x256 .bf16 :=
  truncf .bf16 (concatenate S2x8192x256 2
    [⟨S2x8192x64, (extf .f32 (truncf .bf16 (indexKey P) bitsLt_bf16_f32) bitsLt_bf16_f32 : FVec Ideal S2x8192x64 .f32)⟩,
     ⟨S2x8192x64, (extf .f32 (truncf .bf16 (indexKey P) bitsLt_bf16_f32) bitsLt_bf16_f32 : FVec Ideal S2x8192x64 .f32)⟩,
     ⟨S2x8192x64, (subf (indexKey P) (extf .f32 (truncf .bf16 (indexKey P) bitsLt_bf16_f32) bitsLt_bf16_f32) : FVec Ideal S2x8192x64 .f32)⟩,
     ⟨S2x8192x64, (subf (indexKey P) (extf .f32 (truncf .bf16 (indexKey P) bitsLt_bf16_f32) bitsLt_bf16_f32) : FVec Ideal S2x8192x64 .f32)⟩]
    concatenates_S2x8192x64_S2x8192x64_S2x8192x64_S2x8192x64_S2x8192x256_d2) bitsLt_bf16_f32

/-- The scaled weights of the index's heads, padded with zeros to a tile of lanes. -/
def indexWeights (P : FVec Ideal S2x8192x3656 .f32) : FVec Ideal S2x8192x128 .f32 :=
  pad S2x8192x128 ![0, 0, 0] ![0, 0, 120] ![0, 0, 0]
    (mulf (extractStridedSlice S2x8192x8 ![0, 0, 3648] P slices_S2x8192x3656_S2x8192x8_0_0_3648)
      (broadcastInDim S2x8192x8 ![] bcast_S_S2x8192x8 (constant S_ .f32 0x3EB504F3#32)))
    (sitofp .f32 (constantI S_ 32 0#32)) pads_S2x8192x8_S2x8192x128_000_000_01200 h_S_

/-- Eight heads' lanes, read flat. -/
theorem flat_at (X : FVec Ideal S2x8192x8x256 .f32) (b : Fin 2) (s : Fin 8192) (n : Fin 2048) :
    (shapeCast S2x8192x2048 X shapeCasts_S2x8192x8x256_S2x8192x2048) (ix3 b s n)
      = X (ix4 b s (⟨n.val / 256, by omega⟩ : Fin 8) (⟨n.val % 256, by omega⟩ : Fin 256)) := by
  pointwise

/-- One lane of the keys. -/
theorem keys_at (P : FVec Ideal S2x8192x3656 .f32) (b : Fin 2) (s : Fin 8192) (n : Fin 8) (l : Fin 256) :
    keysByHeads P (ix4 b s n l) = if h : l.val < 128 then P (ix3 b s (⟨1024 + (n.val * 128 + l.val), by omega⟩ : Fin 3656))
      else positions (ix2 s (⟨l.val - 128, by omega⟩ : Fin 128)) := by
  pointwise [keysByHeads]

/-- One lane of the values. -/
theorem values_at (P : FVec Ideal S2x8192x3656 .f32) (b : Fin 2) (s : Fin 8192) (n : Fin 8) (l : Fin 256) :
    valuesByHeads P (ix4 b s n l) = if h : l.val < 64 then P (ix3 b s (⟨2048 + (n.val * 128 + l.val), by omega⟩ : Fin 3656))
      else if h : l.val - 64 < 128 then 1
      else P (ix3 b s (⟨2048 + (n.val * 128 + (64 + (l.val - 64 - 128))), by omega⟩ : Fin 3656)) := by
  pointwise [valuesByHeads, valuePairs]

/-- Every position's chunk start is the whole number of chunks before it, times their length. -/
theorem chunkStart_at (s : Fin 8192) : chunkStart (ix1 s) = BitVec.ofNat 32 (s.val / 64 * 64) := by
  have h : ∀ s : Fin 8192, IntOp.muli
            (Scalar.select
              (IntOp.andi
                (IntOp.cmpi CmpIPredicate.ne
                  (if BitVec.ofNat 32 s.val = 0 then (0 : BitVec 32) else if (BitVec.ofNat 32 s.val).msb = true then -1 else 1)
                  (if 64#32 = (0 : BitVec 32) then 0 else if (64#32).msb = true then -1 else 1))
                (IntOp.cmpi CmpIPredicate.ne
                  (IntOp.remsi ArithUnit.host (BitVec.ofNat 32 s.val) 64#32) 0#32))
              (IntOp.subi (IntOp.divsi ArithUnit.host (BitVec.ofNat 32 s.val) 64#32) 1#32)
              (IntOp.divsi ArithUnit.host (BitVec.ofNat 32 s.val) 64#32))
            64#32 = BitVec.ofNat 32 (s.val / 64 * 64) := by decide +kernel
  pointwise [chunkStart]
  exact h s

/-- Every position's place in its chunk is its remainder by the chunks' length. -/
theorem inChunk_at (s : Fin 8192) : inChunk (ix1 s) = BitVec.ofNat 32 (s.val % 64) := by
  have h : ∀ s : Fin 8192, Scalar.select
      (IntOp.andi
        (IntOp.cmpi CmpIPredicate.ne
          (IntOp.cmpi CmpIPredicate.slt (IntOp.remsi ArithUnit.host (BitVec.ofNat 32 s.val) 64#32) 0#32)
          (IntOp.cmpi CmpIPredicate.slt 64#32 0#32))
        (IntOp.cmpi CmpIPredicate.ne (IntOp.remsi ArithUnit.host (BitVec.ofNat 32 s.val) 64#32) 0#32))
      (IntOp.addi (IntOp.remsi ArithUnit.host (BitVec.ofNat 32 s.val) 64#32) 64#32)
      (IntOp.remsi ArithUnit.host (BitVec.ofNat 32 s.val) 64#32) = BitVec.ofNat 32 (s.val % 64) := by decide +kernel
  have e : divisor ix0 = 64#32 := by decide +kernel
  pointwise [inChunk]
  rw [e]
  exact h s

/-- One of the lanes that carry a position. -/
theorem positions_at (s : Fin 8192) (l : Fin 128) : positions (ix2 s l) = if l.val < 2 then 1
    else if l.val < 5 then FloatOps.sitofp (F := Ideal) FTy.f32 (BitVec.ofNat 32 (s.val / 64 * 64))
    else if l.val < 8 then FloatOps.sitofp (F := Ideal) FTy.f32 (BitVec.ofNat 32 (s.val % 64)) else 0 := by
  pointwise [positions]
  rw [chunkStart_at, inChunk_at]
  split_ifs <;> first | rfl | omega

end Cert.Reference8Ideal.AttnProj

end
-- ==== Proof.AttnProjEntries.lean ====
/-
  The projection into the attention (program 8): one entry of each of the reference's six arrays.
-/
module

public import proofs.«01_k».proof.Proof.AttnProjLayout

@[expose] public section

set_option maxRecDepth 16384

noncomputable section

open Idealize.ShloMosaic Idealize.ShloMosaic.TcCoe Idealize.SL.Sem

namespace Cert.Reference8Ideal.AttnProj

open Cert.Reference8Ideal Cert.Reference8Ideal.Gen

/-- Two places in a stack of matrices are the same where their last coordinates are. -/
theorem ix3_last {a b n : ℕ} (p : Fin a) (q : Fin b) {r r' : Fin n} (h : r.val = r'.val) : ix3 p q r = ix3 p q r' := by
  rw [Fin.ext h]

/-- One column of the queries. -/
theorem queriesFlat_at (P : FVec Ideal S2x8192x3656 .f32) (b : Fin 2) (s : Fin 8192) (n : Fin 1024) :
    queries P (ix3 b s n) = P (ix3 b s (⟨n.val, by omega⟩ : Fin 3656)) * Ideal.ofBits FTy.f32 1043900987#32 := by
  pointwise [queries]

/-- Eight heads' lanes, read flat and rounded: in exact arithmetic the lanes themselves. -/
theorem rounded_at (X : FVec Ideal S2x8192x8x256 .f32) (b : Fin 2) (s : Fin 8192) (n : Fin 2048) :
    (truncf .bf16 (shapeCast S2x8192x2048 X shapeCasts_S2x8192x8x256_S2x8192x2048) bitsLt_bf16_f32 : FVec Ideal S2x8192x2048 .bf16) (ix3 b s n)
      = X (ix4 b s (⟨n.val / 256, by omega⟩ : Fin 8) (⟨n.val % 256, by omega⟩ : Fin 256)) :=
  flat_at X b s n

/-- One lane of the keys, flat. -/
theorem keysFlat_at (P : FVec Ideal S2x8192x3656 .f32) (b : Fin 2) (s : Fin 8192) (n : Fin 2048) :
    keys P (ix3 b s n) = if h : n.val % 256 < 128 then P (ix3 b s (⟨1024 + (n.val / 256 * 128 + n.val % 256), by omega⟩ : Fin 3656))
      else positions (ix2 s (⟨n.val % 256 - 128, by omega⟩ : Fin 128)) := by
  unfold keys
  exact (rounded_at (keysByHeads P) b s n).trans (keys_at P b s (⟨n.val / 256, by omega⟩ : Fin 8) (⟨n.val % 256, by omega⟩ : Fin 256))

/-- One lane of the values, flat. -/
theorem valuesFlat_at (P : FVec Ideal S2x8192x3656 .f32) (b : Fin 2) (s : Fin 8192) (n : Fin 2048) :
    values P (ix3 b s n) = if h : n.val % 256 < 64 then P (ix3 b s (⟨2048 + (n.val / 256 * 128 + n.val % 256), by omega⟩ : Fin 3656))
      else if h : n.val % 256 - 64 < 128 then 1
      else P (ix3 b s (⟨2048 + (n.val / 256 * 128 + (64 + (n.val % 256 - 64 - 128))), by omega⟩ : Fin 3656)) := by
  unfold values
  exact (rounded_at (valuesByHeads P) b s n).trans (values_at P b s (⟨n.val / 256, by omega⟩ : Fin 8) (⟨n.val % 256, by omega⟩ : Fin 256))

/-- One lane of a head's queries of the index. -/
theorem indexQueries_at (P : FVec Ideal S2x8192x3656 .f32) (b : Fin 2) (s : Fin 8192) (n : Fin 8) (l : Fin 256) (k : Fin 3656)
    (hk : k.val = 3072 + (n.val * 64 + l.val % 64)) :
    indexQueriesByHeads P (ix4 b s n l) = if l.val % 128 < 64 then P (ix3 b s k) * Ideal.ofBits FTy.f32 1040187392#32
      else P (ix3 b s k) * Ideal.ofBits FTy.f32 1040187392#32 - P (ix3 b s k) * Ideal.ofBits FTy.f32 1040187392#32 := by
  pointwise [indexQueriesByHeads, indexHeads]
  by_cases hl : l.val % 128 < 64
  · rw [if_pos hl]
    split_ifs <;> first
      | (exfalso; omega)
      | exact congrArg (fun i => P i * Ideal.ofBits FTy.f32 1040187392#32) (ix3_last b s (by first | omega | (dsimp only; omega)))
  · rw [if_neg hl]
    split_ifs <;> first
      | (exfalso; omega)
      | exact congrArg (fun i => P i * Ideal.ofBits FTy.f32 1040187392#32 - P i * Ideal.ofBits FTy.f32 1040187392#32) (ix3_last b s (by first | omega | (dsimp only; omega)))

/-- One lane of the queries of the index, flat. -/
theorem indexQueriesFlat_at (P : FVec Ideal S2x8192x3656 .f32) (b : Fin 2) (s : Fin 8192) (n : Fin 2048) (k : Fin 3656)
    (hk : k.val = 3072 + (n.val / 256 * 64 + n.val % 64)) :
    indexQueries P (ix3 b s n) = if n.val % 128 < 64 then P (ix3 b s k) * Ideal.ofBits FTy.f32 1040187392#32
      else P (ix3 b s k) * Ideal.ofBits FTy.f32 1040187392#32 - P (ix3 b s k) * Ideal.ofBits FTy.f32 1040187392#32 := by
  unfold indexQueries
  refine (rounded_at (indexQueriesByHeads P) b s n).trans ((indexQueries_at P b s (⟨n.val / 256, by omega⟩ : Fin 8) (⟨n.val % 256, by omega⟩ : Fin 256) k
    (by first | omega | (dsimp only; omega))).trans ?_)
  rw [show n.val % 256 % 128 = n.val % 128 by omega]

/-- One lane of the keys of the index. -/
theorem indexKeys_at (P : FVec Ideal S2x8192x3656 .f32) (b : Fin 2) (s : Fin 8192) (n : Fin 256) (k : Fin 3656)
    (hk : k.val = 3584 + n.val % 64) :
    indexKeys P (ix3 b s n) = if n.val < 128 then P (ix3 b s k) else P (ix3 b s k) - P (ix3 b s k) := by
  pointwise [indexKeys, indexKey]
  by_cases hl : n.val < 128
  · rw [if_pos hl]
    split_ifs <;> first
      | (exfalso; omega)
      | exact congrArg P (ix3_last b s (by first | omega | (dsimp only; omega)))
  · rw [if_neg hl]
    split_ifs <;> first
      | (exfalso; omega)
      | exact congrArg (fun i => P i - P i) (ix3_last b s (by first | omega | (dsimp only; omega)))

/-- One lane of the weights of the index. -/
theorem indexWeights_at (P : FVec Ideal S2x8192x3656 .f32) (b : Fin 2) (s : Fin 8192) (n : Fin 128) :
    indexWeights P (ix3 b s n) = if h : n.val < 8 then P (ix3 b s (⟨3648 + n.val, by omega⟩ : Fin 3656)) * Ideal.ofBits FTy.f32 1052050675#32
      else 0 := by
  have z : FloatOps.sitofp (F := Ideal) FTy.f32 (0#32) = (0 : EReal) := by simp [FloatOps.sitofp]
  pointwise [indexWeights]
  split_ifs
  · rfl
  · exact z

end Cert.Reference8Ideal.AttnProj

end
-- ==== Proof.AttnProjLanes.lean ====
/-
  The projection into the attention (program 8): how the kernel tells lanes apart, and the lanes in which it writes a position.
-/
module

public import proofs.«01_k».proof.Proof.AttnProjLayout

@[expose] public section

set_option maxRecDepth 16384

noncomputable section

open Idealize.ShloMosaic Idealize.ShloMosaic.TcCoe Idealize.SL.Sem

namespace Cert.Kernel8Ideal.AttnProj

open Cert.Kernel8Ideal Cert.Kernel8Ideal.Gen

variable (m : (ℓ : Loc nD τ sig) → Buf (Elt Ideal) ℓ)

/-- A choice by a lane's number, as the kernel's comparison of words makes it. -/
theorem lane_select {α : Type} (c : Dev nD) (t : Fin cfg0.N) (r : Fin 512) (l : Fin 128) (k : BitVec 32) (K : ℕ) (p q : α)
    (hk : ∀ l : Fin 128, IntOp.cmpi CmpIPredicate.slt (BitVec.ofNat 32 l.val) k = if l.val < K then 1#1 else 0#1) :
    Scalar.select (IntOp.cmpi CmpIPredicate.slt (k0_pay105 (F := Ideal) (grid0.coords t) (iblk m c 0 t) (iblk m c 1 t) (iblk m c 2 t) (iblk m c 3 t) (iblk m c 4 t) (iblk m c 5 t) (iblk m c 6 t) (ix2 r l)) k) p q = if l.val < K then p else q := by
  have e : k0_pay105 (F := Ideal) (grid0.coords t) (iblk m c 0 t) (iblk m c 1 t) (iblk m c 2 t) (iblk m c 3 t) (iblk m c 4 t) (iblk m c 5 t) (iblk m c 6 t) (ix2 r l) = BitVec.ofNat 32 l.val := by pointwise [k0_pay105]
  rw [e, hk l]
  by_cases h : l.val < K <;> simp [h, Scalar.select]

/-- Two places in a matrix are the same where their coordinates are. -/
theorem ix2_eq {a b : ℕ} {p p' : Fin a} {q q' : Fin b} (hp : p.val = p'.val) (hq : q.val = q'.val) : ix2 p q = ix2 p' q' := by
  rw [Fin.ext hp, Fin.ext hq]

/-- The kernel's comparison of lanes tells the first half of a tile of lanes. -/
theorem lowLanes (c : Dev nD) (t : Fin cfg0.N) :
    k0_pay112 (F := Ideal) (grid0.coords t) (iblk m c 0 t) (iblk m c 1 t) (iblk m c 2 t) (iblk m c 3 t) (iblk m c 4 t) (iblk m c 5 t) (iblk m c 6 t) = fun i => if (i 1).val < 64 then 1#1 else 0#1 := by
  have h : ∀ l : Fin 128, IntOp.cmpi CmpIPredicate.slt (BitVec.ofNat 32 l.val) 64#32 = if l.val < 64 then 1#1 else 0#1 := by decide
  funext i
  unfold k0_pay112 k0_pay105
  pointwise [k0_pay18]
  exact h (i 1)

/-- A choice by the first half of a tile of lanes. -/
theorem select_low {α : Type} (l : ℕ) (p q : α) : Scalar.select (if l < 64 then 1#1 else 0#1) p q = if l < 64 then p else q := by
  by_cases h : l < 64 <;> simp [h, Scalar.select]

/-- The lanes that carry a position, as the kernel's words say them. -/
theorem placeBlock_at (c : Dev nD) (t : Fin cfg0.N) (r : Fin 512) (l : Fin 128) (s : Fin 8192) (hs : s.val = t.val % 16 * 512 + r.val) :
    k0_pay111 (F := Ideal) (grid0.coords t) (iblk m c 0 t) (iblk m c 1 t) (iblk m c 2 t) (iblk m c 3 t) (iblk m c 4 t) (iblk m c 5 t) (iblk m c 6 t) (ix2 r l) = Reference8Ideal.AttnProj.positions (ix2 s l) := by
  rw [Reference8Ideal.AttnProj.positions_at]
  unfold k0_pay111
  pointwise [k0_pay17]
  rw [lane_select m c t r l 2#32 2 _ _ (by decide), lane_select m c t r l 5#32 5 _ _ (by decide), lane_select m c t r l 8#32 8 _ _ (by decide)]
  have hi : (grid0.coords t 1).val = t.val % 16 := (places t).2.2.2.2.2.2.2.2.2.2.2.2.2
  have hw : ∀ (p : Fin 16) (r : Fin 512), IntOp.addi (Scalar.muli (BitVec.ofNat 32 p.val) 512#32) (BitVec.ofNat 32 r.val) = BitVec.ofNat 32 (p.val * 512 + r.val) := by
    decide +kernel
  have e13 : k0_pay13 (BitVec.ofNat 32 (grid0.coords t 1).val) (ix2 r l) = BitVec.ofNat 32 s.val := by
    pointwise [k0_pay13]
    rw [hi, hs]
    exact hw ⟨t.val % 16, by omega⟩ r
  have e14 : k0_pay108 (F := Ideal) (grid0.coords t) (iblk m c 0 t) (iblk m c 1 t) (iblk m c 2 t) (iblk m c 3 t) (iblk m c 4 t) (iblk m c 5 t) (iblk m c 6 t) (ix2 r l) = FloatOps.sitofp (F := Ideal) FTy.f32 (BitVec.ofNat 32 (s.val / 64 * 64)) := by
    unfold k0_pay108
    pointwise [k0_pay14]
    rw [e13]
    have h : ∀ s : Fin 8192, IntOp.muli
        (Scalar.select
          (IntOp.andi
            (IntOp.cmpi CmpIPredicate.ne
              (IntOp.subi (BitVec.setWidth 32 (IntOp.cmpi CmpIPredicate.sgt (BitVec.ofNat 32 s.val) 0#32))
                (BitVec.setWidth 32 (IntOp.cmpi CmpIPredicate.slt (BitVec.ofNat 32 s.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 s.val) 64#32) 0#32))
          (IntOp.subi (IntOp.divsi ArithUnit.vector (BitVec.ofNat 32 s.val) 64#32) 1#32)
          (IntOp.divsi ArithUnit.vector (BitVec.ofNat 32 s.val) 64#32))
        64#32 = BitVec.ofNat 32 (s.val / 64 * 64) := by decide +kernel
    exact congrArg (FloatOps.sitofp (F := Ideal) FTy.f32) (h s)
  have e15 : k0_pay109 (F := Ideal) (grid0.coords t) (iblk m c 0 t) (iblk m c 1 t) (iblk m c 2 t) (iblk m c 3 t) (iblk m c 4 t) (iblk m c 5 t) (iblk m c 6 t) (ix2 r l) = BitVec.ofNat 32 (s.val % 64) := by
    unfold k0_pay109
    pointwise [k0_pay15]
    rw [e13]
    have h : ∀ s : Fin 8192, IntOp.remsi ArithUnit.vector (BitVec.ofNat 32 s.val)
        (Scalar.select (Scalar.cmpi CmpIPredicate.eq 64#32 0#32) 1#32 64#32) = BitVec.ofNat 32 (s.val % 64) := by decide +kernel
    exact h s
  have e16 : k0_pay110 (F := Ideal) (grid0.coords t) (iblk m c 0 t) (iblk m c 1 t) (iblk m c 2 t) (iblk m c 3 t) (iblk m c 4 t) (iblk m c 5 t) (iblk m c 6 t) (ix2 r l) = IntOp.cmpi CmpIPredicate.ne (BitVec.ofNat 32 (s.val % 64)) 0#32 := by
    unfold k0_pay110
    pointwise [k0_pay16]
    exact congrArg (fun w => IntOp.cmpi CmpIPredicate.ne w 0#32) e15
  have h : ∀ p : Fin 64, Scalar.select
      (IntOp.andi
        (IntOp.xori (IntOp.cmpi CmpIPredicate.slt (BitVec.ofNat 32 p.val) 0#32)
          (Scalar.cmpi CmpIPredicate.slt (Scalar.select (Scalar.cmpi CmpIPredicate.eq 64#32 0#32) 1#32 64#32) 0#32))
        (IntOp.cmpi CmpIPredicate.ne (BitVec.ofNat 32 p.val) 0#32))
      (IntOp.addi (BitVec.ofNat 32 p.val) (Scalar.select (Scalar.cmpi CmpIPredicate.eq 64#32 0#32) 1#32 64#32))
      (BitVec.ofNat 32 p.val) = BitVec.ofNat 32 p.val := by decide
  rw [e14, e15, e16, h ⟨s.val % 64, by omega⟩]

end Cert.Kernel8Ideal.AttnProj

end
-- ==== Proof.AttnProjKeys.lean ====
/-
  The projection into the attention (program 8): the kernel's blocks of keys and of values, lane by lane.
-/
module

public import proofs.«01_k».proof.Proof.AttnProjLanes

@[expose] public section

set_option maxRecDepth 16384

noncomputable section

open Idealize.ShloMosaic Idealize.ShloMosaic.TcCoe Idealize.SL.Sem

namespace Cert.Kernel8Ideal.AttnProj

open Cert.Kernel8Ideal Cert.Kernel8Ideal.Gen

variable (m : (ℓ : Loc nD τ sig) → Buf (Elt Ideal) ℓ)

set_option maxHeartbeats 1000000 in
/-- One lane of the kernel's block of keys. -/
theorem keyBlock_at (c : Dev nD) (t : Fin cfg0.N) (y : S1x512x2048.Idx) :
    out0_8 (grid0.coords t) (iblk m c 0 t) (iblk m c 1 t) (iblk m c 2 t) (iblk m c 3 t) (iblk m c 4 t) (iblk m c 5 t) (iblk m c 6 t) y
     = (if h : (y 2).val % 256 < 128 then tileQkv m c t (ix2 (y 1) (⟨1024 + ((y 2).val / 256 * 128 + (y 2).val % 256), by have : (y 2).val < 2048 := (y 2).isLt; omega⟩ : Fin 3072))
      else k0_pay111 (F := Ideal) (grid0.coords t) (iblk m c 0 t) (iblk m c 1 t) (iblk m c 2 t) (iblk m c 3 t) (iblk m c 4 t) (iblk m c 5 t) (iblk m c 6 t) (ix2 (y 1) (⟨(y 2).val % 256 - 128, by omega⟩ : Fin 128))) := by
  unfold out0_8 k0_pay106 tileQkv
  generalize k0_pay104 (F := Ideal) (grid0.coords t) (iblk m c 0 t) (iblk m c 1 t) (iblk m c 2 t) (iblk m c 3 t) (iblk m c 4 t) (iblk m c 5 t) (iblk m c 6 t) = Q
  have h17 : k0_pay17 (F := Ideal) (k0_pay105 (grid0.coords t) (iblk m c 0 t) (iblk m c 1 t) (iblk m c 2 t) (iblk m c 3 t) (iblk m c 4 t) (iblk m c 5 t) (iblk m c 6 t)) (k0_pay108 (grid0.coords t) (iblk m c 0 t) (iblk m c 1 t) (iblk m c 2 t) (iblk m c 3 t) (iblk m c 4 t) (iblk m c 5 t) (iblk m c 6 t)) (Scalar.select (Scalar.cmpi .eq 64#32 0#32) 1#32 64#32)
    (k0_pay109 (grid0.coords t) (iblk m c 0 t) (iblk m c 1 t) (iblk m c 2 t) (iblk m c 3 t) (iblk m c 4 t) (iblk m c 5 t) (iblk m c 6 t)) (k0_pay110 (grid0.coords t) (iblk m c 0 t) (iblk m c 1 t) (iblk m c 2 t) (iblk m c 3 t) (iblk m c 4 t) (iblk m c 5 t) (iblk m c 6 t)) 0#32 = k0_pay111 (grid0.coords t) (iblk m c 0 t) (iblk m c 1 t) (iblk m c 2 t) (iblk m c 3 t) (iblk m c 4 t) (iblk m c 5 t) (iblk m c 6 t) := rfl
  generalize k0_pay111 (F := Ideal) (grid0.coords t) (iblk m c 0 t) (iblk m c 1 t) (iblk m c 2 t) (iblk m c 3 t) (iblk m c 4 t) (iblk m c 5 t) (iblk m c 6 t) = K at h17 ⊢
  simp only [k0_pay21, h17]
  canon_tiles x h
  all_goals (open_payloads; pointwise)
  all_goals (first | rw [dif_pos (by omega)] | rw [dif_neg (by omega)])
  all_goals blk_ext

set_option maxHeartbeats 1000000 in
/-- One lane of the kernel's block of values. -/
theorem valueBlock_at (c : Dev nD) (t : Fin cfg0.N) (y : S1x512x2048.Idx) :
    out0_9 (grid0.coords t) (iblk m c 0 t) (iblk m c 1 t) (iblk m c 2 t) (iblk m c 3 t) (iblk m c 4 t) (iblk m c 5 t) (iblk m c 6 t) y
     = (if h : (y 2).val % 256 < 64 then tileQkv m c t (ix2 (y 1) (⟨2048 + ((y 2).val / 256 * 128 + (y 2).val % 256), by have : (y 2).val < 2048 := (y 2).isLt; omega⟩ : Fin 3072))
        else if h : (y 2).val % 256 - 64 < 128 then (1 : EReal)
        else tileQkv m c t (ix2 (y 1) (⟨2048 + ((y 2).val / 256 * 128 + (64 + ((y 2).val % 256 - 64 - 128))), by have : (y 2).val < 2048 := (y 2).isLt; omega⟩ : Fin 3072))) := by
  unfold out0_9 k0_pay107 k0_pay113 tileQkv
  have h18 : k0_pay18 (k0_pay105 (F := Ideal) (grid0.coords t) (iblk m c 0 t) (iblk m c 1 t) (iblk m c 2 t) (iblk m c 3 t) (iblk m c 4 t) (iblk m c 5 t) (iblk m c 6 t)) = k0_pay112 (grid0.coords t) (iblk m c 0 t) (iblk m c 1 t) (iblk m c 2 t) (iblk m c 3 t) (iblk m c 4 t) (iblk m c 5 t) (iblk m c 6 t) := rfl
  rw [lowLanes] at h18 ⊢
  simp only [k0_pay23, k0_pay24, h18]
  generalize k0_pay104 (F := Ideal) (grid0.coords t) (iblk m c 0 t) (iblk m c 1 t) (iblk m c 2 t) (iblk m c 3 t) (iblk m c 4 t) (iblk m c 5 t) (iblk m c 6 t) = Q
  canon_tiles x h
  all_goals (open_payloads; pointwise; refine (select_low _ _ _).trans ?_)
  all_goals (split_ifs <;> first | rfl | (exfalso; omega) | blk_ext)

end Cert.Kernel8Ideal.AttnProj

end
-- ==== Proof.AttnProjIndex.lean ====
/-
  The projection into the attention (program 8): the kernel's blocks of the index's queries, keys and weights and of the scaled queries, lane by lane.
-/
module

public import proofs.«01_k».proof.Proof.AttnProjLanes

@[expose] public section

set_option maxRecDepth 16384

noncomputable section

open Idealize.ShloMosaic Idealize.ShloMosaic.TcCoe Idealize.SL.Sem

namespace Cert.Kernel8Ideal.AttnProj

open Cert.Kernel8Ideal Cert.Kernel8Ideal.Gen

variable (m : (ℓ : Loc nD τ sig) → Buf (Elt Ideal) ℓ)

set_option maxHeartbeats 1000000 in
/-- One lane of the kernel's block of the index's queries. -/
theorem indexQueryBlock_at (c : Dev nD) (t : Fin cfg0.N) (y : S1x512x2048.Idx) (n : Fin 640) (hn : n.val = (y 2).val / 256 * 64 + (y 2).val % 64) :
    out0_10 (grid0.coords t) (iblk m c 0 t) (iblk m c 1 t) (iblk m c 2 t) (iblk m c 3 t) (iblk m c 4 t) (iblk m c 5 t) (iblk m c 6 t) y
     = (if (y 2).val % 128 < 64 then tileIdx m c t (ix2 (y 1) n) * Ideal.ofBits FTy.f32 1040187392#32
        else tileIdx m c t (ix2 (y 1) n) * Ideal.ofBits FTy.f32 1040187392#32 - tileIdx m c t (ix2 (y 1) n) * Ideal.ofBits FTy.f32 1040187392#32) := by
  unfold out0_10 k0_pay119 k0_pay118 k0_pay117 k0_pay116 tileIdx
  rw [lowLanes]
  have h64 : k0_pay64 (k0_pay103 (F := Ideal) (grid0.coords t) (iblk m c 0 t) (iblk m c 1 t) (iblk m c 2 t) (iblk m c 3 t) (iblk m c 4 t) (iblk m c 5 t) (iblk m c 6 t)) (k0_pay114 (grid0.coords t) (iblk m c 0 t) (iblk m c 1 t) (iblk m c 2 t) (iblk m c 3 t) (iblk m c 4 t) (iblk m c 5 t) (iblk m c 6 t)) (View.ld (iblk m c 6 t) r0_20) = k0_pay115 (grid0.coords t) (iblk m c 0 t) (iblk m c 1 t) (iblk m c 2 t) (iblk m c 3 t) (iblk m c 4 t) (iblk m c 5 t) (iblk m c 6 t) := rfl
  generalize k0_pay115 (F := Ideal) (grid0.coords t) (iblk m c 0 t) (iblk m c 1 t) (iblk m c 2 t) (iblk m c 3 t) (iblk m c 4 t) (iblk m c 5 t) (iblk m c 6 t) = T at h64 ⊢
  generalize k0_pay103 (F := Ideal) (grid0.coords t) (iblk m c 0 t) (iblk m c 1 t) (iblk m c 2 t) (iblk m c 3 t) (iblk m c 4 t) (iblk m c 5 t) (iblk m c 6 t) = A at h64 ⊢
  generalize k0_pay114 (F := Ideal) (grid0.coords t) (iblk m c 0 t) (iblk m c 1 t) (iblk m c 2 t) (iblk m c 3 t) (iblk m c 4 t) (iblk m c 5 t) (iblk m c 6 t) = B at h64 ⊢
  generalize View.ld (iblk m c 6 t) r0_20 = C at h64 ⊢
  simp only [k0_pay70, k0_pay71, k0_pay72, k0_pay73, k0_pay68, k0_pay69, k0_pay67, k0_pay66, k0_pay65, k0_pay79, k0_pay80, k0_pay81, k0_pay82, k0_pay78, k0_pay77, k0_pay76, k0_pay75, k0_pay74, k0_pay88, k0_pay89, k0_pay90, k0_pay91, k0_pay86, k0_pay87, k0_pay85, k0_pay84, k0_pay83, k0_pay97, k0_pay98, k0_pay99, k0_pay100, k0_pay96, k0_pay95, k0_pay94, k0_pay93, k0_pay92, h64]
  canon_tiles x h
  all_goals (pointwise; refine (select_low _ _ _).trans ?_)
  all_goals (split_ifs <;> first
    | (exfalso; omega)
    | exact congrArg (fun i => T i * Ideal.ofBits FTy.f32 1040187392#32) (ix2_eq h1.symm (by (try dsimp only); omega))
    | exact congrArg (fun i => T i * Ideal.ofBits FTy.f32 1040187392#32 - T i * Ideal.ofBits FTy.f32 1040187392#32) (ix2_eq h1.symm (by (try dsimp only); omega)))

/-- One lane of the kernel's block of the index's keys. -/
theorem indexKeyBlock_at (c : Dev nD) (t : Fin cfg0.N) (y : S1x512x256.Idx) :
    out0_11 (grid0.coords t) (iblk m c 0 t) (iblk m c 1 t) (iblk m c 2 t) (iblk m c 3 t) (iblk m c 4 t) (iblk m c 5 t) (iblk m c 6 t) y
     = (if (y 2).val < 128 then tileIdx m c t (ix2 (y 1) (⟨512 + (y 2).val % 64, by omega⟩ : Fin 640))
        else tileIdx m c t (ix2 (y 1) (⟨512 + (y 2).val % 64, by omega⟩ : Fin 640)) - tileIdx m c t (ix2 (y 1) (⟨512 + (y 2).val % 64, by omega⟩ : Fin 640))) := by
  unfold out0_11 k0_pay121 k0_pay120 tileIdx
  rw [lowLanes]
  generalize k0_pay115 (F := Ideal) (grid0.coords t) (iblk m c 0 t) (iblk m c 1 t) (iblk m c 2 t) (iblk m c 3 t) (iblk m c 4 t) (iblk m c 5 t) (iblk m c 6 t) = T
  canon_tiles x h
  all_goals (open_payloads; pointwise; refine (select_low _ _ _).trans ?_)
  all_goals (split_ifs <;> first
    | (exfalso; omega)
    | exact congrArg T (ix2_eq h1.symm (by (try dsimp only); omega))
    | exact congrArg (fun i => T i - T i) (ix2_eq h1.symm (by (try dsimp only); omega)))

/-- One lane of the kernel's block of the index's weights. -/
theorem indexWeightBlock_at (c : Dev nD) (t : Fin cfg0.N) (r : Fin 512) (l : Fin 128) :
    out0_12 (grid0.coords t) (iblk m c 0 t) (iblk m c 1 t) (iblk m c 2 t) (iblk m c 3 t) (iblk m c 4 t) (iblk m c 5 t) (iblk m c 6 t) (ix3 0 r l)
     = (if h : l.val < 8 then tileIdx m c t (ix2 r (⟨576 + l.val, by omega⟩ : Fin 640)) * Ideal.ofBits FTy.f32 1052050675#32 else 0) := by
  unfold out0_12 k0_pay120 tileIdx
  generalize k0_pay115 (F := Ideal) (grid0.coords t) (iblk m c 0 t) (iblk m c 1 t) (iblk m c 2 t) (iblk m c 3 t) (iblk m c 4 t) (iblk m c 5 t) (iblk m c 6 t) = T
  frame_out
  pointwise [k0_pay4, k0_pay101]
  refine (lane_select m c t r l 8#32 8 _ _ (by decide)).trans ?_
  split_ifs
  · exact congrArg (fun i => T i * Ideal.ofBits FTy.f32 1052050675#32) (ix2_eq rfl (by (try dsimp only); omega))
  · rfl

/-- One column of the kernel's block of queries. -/
theorem queryBlock_at (c : Dev nD) (t : Fin cfg0.N) (r : Fin 512) (n : Fin 1024) :
    out0_7 (grid0.coords t) (iblk m c 0 t) (iblk m c 1 t) (iblk m c 2 t) (iblk m c 3 t) (iblk m c 4 t) (iblk m c 5 t) (iblk m c 6 t) (ix3 0 r n)
     = tileQkv m c t (ix2 r (⟨n.val, by omega⟩ : Fin 3072)) * Ideal.ofBits FTy.f32 1043900987#32 := by
  unfold out0_7 tileQkv k0_pay104
  frame_out
  pointwise [k0_pay10, k0_pay9]
  blk_ext

end Cert.Kernel8Ideal.AttnProj

end
-- ==== Proof.AttnProj.lean ====
/-
  The projection into the attention (program 8): the arrays the kernel leaves are the reference's.
-/
module

public import proofs.«01_k».proof.Proof.AttnProjEntries
public import proofs.«01_k».proof.Proof.AttnProjKeys
public import proofs.«01_k».proof.Proof.AttnProjIndex

@[expose] public section

set_option maxRecDepth 16384

noncomputable section

open Idealize.ShloMosaic Idealize.ShloMosaic.TcCoe Idealize.SL.Sem
open Idealize.ShloMosaic.Pipeline (Dat)
open Cert.RealValues

namespace Cert.Kernel8Ideal.AttnProj

open Cert.Kernel8Ideal Cert.Kernel8Ideal.Gen Cert.Reference8Ideal.AttnProj

variable (m : (ℓ : Loc nD τ sig) → Buf (Elt Ideal) ℓ)

/-- The first array after the run: the scaled queries. -/
theorem final_queries (c : Dev nD) : (dats m 0 c).arrAt 7 cfg0.N = queries (argProj m c) := by
  refine (dats m 0 c).arrAt_eq_of_covers 7 _ (by decide +kernel) fun t _ y => ?_
  blk_simp
  rw [after0_7]
  idx_vars y
  obtain rfl : y0 = 0 := Subsingleton.elim _ _
  have ht : t.val < 32 := t.isLt
  have hb : t.val / 16 < 2 := by omega
  have hs : t.val % 16 * 512 + y1.val < 8192 := by omega
  have e : (win0_7.blk t).view.emb (ix3 0 y1 y2) = ix3 (⟨t.val / 16, hb⟩ : Fin 2) (⟨t.val % 16 * 512 + y1.val, hs⟩ : Fin 8192) y2 := by
    blk_ext [places t]
  refine Eq.trans ?_ (congrArg (queries (argProj m c)) e).symm
  refine (queryBlock_at m c t y1 y2).trans (Eq.trans ?_ (queriesFlat_at _ _ _ y2).symm)
  exact congrArg (fun z => z * Ideal.ofBits FTy.f32 1043900987#32) (tileQkv_at m c t y1 _ (⟨t.val / 16, hb⟩ : Fin 2) (⟨t.val % 16 * 512 + y1.val, hs⟩ : Fin 8192) _ rfl rfl rfl)

/-- The second: the keys with the lanes that carry positions. -/
theorem final_keys (c : Dev nD) : (dats m 0 c).arrAt 8 cfg0.N = keys (argProj m c) := by
  refine (dats m 0 c).arrAt_eq_of_covers 8 _ (by decide +kernel) fun t _ y => ?_
  blk_simp
  rw [after0_8]
  idx_vars y
  obtain rfl : y0 = 0 := Subsingleton.elim _ _
  have ht : t.val < 32 := t.isLt
  have hb : t.val / 16 < 2 := by omega
  have hs : t.val % 16 * 512 + y1.val < 8192 := by omega
  have e : (win0_8.blk t).view.emb (ix3 0 y1 y2) = ix3 (⟨t.val / 16, hb⟩ : Fin 2) (⟨t.val % 16 * 512 + y1.val, hs⟩ : Fin 8192) y2 := by
    blk_ext [places t]
  refine Eq.trans ?_ (congrArg (keys (argProj m c)) e).symm
  refine (keyBlock_at m c t (ix3 0 y1 y2)).trans (Eq.trans ?_ (keysFlat_at _ _ _ y2).symm)
  by_cases h : y2.val % 256 < 128
  · refine (dif_pos h).trans (Eq.trans ?_ (dif_pos h).symm)
    exact tileQkv_at m c t y1 _ (⟨t.val / 16, hb⟩ : Fin 2) (⟨t.val % 16 * 512 + y1.val, hs⟩ : Fin 8192) _ rfl rfl rfl
  · refine (dif_neg h).trans (Eq.trans ?_ (dif_neg h).symm)
    exact placeBlock_at m c t y1 _ (⟨t.val % 16 * 512 + y1.val, hs⟩ : Fin 8192) rfl

/-- The third: the values with the ones between them. -/
theorem final_values (c : Dev nD) : (dats m 0 c).arrAt 9 cfg0.N = values (argProj m c) := by
  refine (dats m 0 c).arrAt_eq_of_covers 9 _ (by decide +kernel) fun t _ y => ?_
  blk_simp
  rw [after0_9]
  idx_vars y
  obtain rfl : y0 = 0 := Subsingleton.elim _ _
  have ht : t.val < 32 := t.isLt
  have hb : t.val / 16 < 2 := by omega
  have hs : t.val % 16 * 512 + y1.val < 8192 := by omega
  have e : (win0_9.blk t).view.emb (ix3 0 y1 y2) = ix3 (⟨t.val / 16, hb⟩ : Fin 2) (⟨t.val % 16 * 512 + y1.val, hs⟩ : Fin 8192) y2 := by
    blk_ext [places t]
  refine Eq.trans ?_ (congrArg (values (argProj m c)) e).symm
  refine (valueBlock_at m c t (ix3 0 y1 y2)).trans (Eq.trans ?_ (valuesFlat_at _ _ _ y2).symm)
  by_cases h : y2.val % 256 < 64
  · refine (dif_pos h).trans (Eq.trans ?_ (dif_pos h).symm)
    exact tileQkv_at m c t y1 _ (⟨t.val / 16, hb⟩ : Fin 2) (⟨t.val % 16 * 512 + y1.val, hs⟩ : Fin 8192) _ rfl rfl rfl
  · refine (dif_neg h).trans (Eq.trans ?_ (dif_neg h).symm)
    by_cases h' : y2.val % 256 - 64 < 128
    · refine (dif_pos h').trans (Eq.trans ?_ (dif_pos h').symm)
      rfl
    · refine (dif_neg h').trans (Eq.trans ?_ (dif_neg h').symm)
      exact tileQkv_at m c t y1 _ (⟨t.val / 16, hb⟩ : Fin 2) (⟨t.val % 16 * 512 + y1.val, hs⟩ : Fin 8192) _ rfl rfl rfl

/-- The fourth: the queries of the index, each leading part beside its remainder. -/
theorem final_indexQueries (c : Dev nD) (hR : ∀ i, IsReal (argRows m c i))
    (hW : ∀ i, IsReal ((m ((c : Thread nD τ).loc main_arg4) : FVec Ideal S1024x3656 .f32) i)) : (dats m 0 c).arrAt 10 cfg0.N = indexQueries (argProj m c) := by
  refine (dats m 0 c).arrAt_eq_of_covers 10 _ (by decide +kernel) fun t _ y => ?_
  blk_simp
  rw [after0_10]
  idx_vars y
  obtain rfl : y0 = 0 := Subsingleton.elim _ _
  have ht : t.val < 32 := t.isLt
  have hb : t.val / 16 < 2 := by omega
  have hs : t.val % 16 * 512 + y1.val < 8192 := by omega
  have e : (win0_10.blk t).view.emb (ix3 0 y1 y2) = ix3 (⟨t.val / 16, hb⟩ : Fin 2) (⟨t.val % 16 * 512 + y1.val, hs⟩ : Fin 8192) y2 := by
    blk_ext [places t]
  refine Eq.trans ?_ (congrArg (indexQueries (argProj m c)) e).symm
  have hn : y2.val / 256 * 64 + y2.val % 64 < 640 := by omega
  have hk : 3072 + (y2.val / 256 * 64 + y2.val % 64) < 3656 := by omega
  refine (indexQueryBlock_at m c t (ix3 0 y1 y2) ⟨y2.val / 256 * 64 + y2.val % 64, hn⟩ rfl).trans
    (Eq.trans ?_ (indexQueriesFlat_at _ _ _ y2 ⟨3072 + (y2.val / 256 * 64 + y2.val % 64), hk⟩ rfl).symm)
  have ez := tileIdx_at m c t y1 ⟨y2.val / 256 * 64 + y2.val % 64, hn⟩ (⟨t.val / 16, hb⟩ : Fin 2) (⟨t.val % 16 * 512 + y1.val, hs⟩ : Fin 8192) ⟨3072 + (y2.val / 256 * 64 + y2.val % 64), hk⟩ rfl rfl rfl hR hW
  exact congrArg (fun z => if y2.val % 128 < 64 then z * Ideal.ofBits FTy.f32 1040187392#32
    else z * Ideal.ofBits FTy.f32 1040187392#32 - z * Ideal.ofBits FTy.f32 1040187392#32) ez

/-- The fifth: the keys of the index, the leading part twice before its remainder twice. -/
theorem final_indexKeys (c : Dev nD) (hR : ∀ i, IsReal (argRows m c i))
    (hW : ∀ i, IsReal ((m ((c : Thread nD τ).loc main_arg4) : FVec Ideal S1024x3656 .f32) i)) : (dats m 0 c).arrAt 11 cfg0.N = indexKeys (argProj m c) := by
  refine (dats m 0 c).arrAt_eq_of_covers 11 _ (by decide +kernel) fun t _ y => ?_
  blk_simp
  rw [after0_11]
  idx_vars y
  obtain rfl : y0 = 0 := Subsingleton.elim _ _
  have ht : t.val < 32 := t.isLt
  have hb : t.val / 16 < 2 := by omega
  have hs : t.val % 16 * 512 + y1.val < 8192 := by omega
  have e : (win0_11.blk t).view.emb (ix3 0 y1 y2) = ix3 (⟨t.val / 16, hb⟩ : Fin 2) (⟨t.val % 16 * 512 + y1.val, hs⟩ : Fin 8192) y2 := by
    blk_ext [places t]
  refine Eq.trans ?_ (congrArg (indexKeys (argProj m c)) e).symm
  have hn : 512 + y2.val % 64 < 640 := by omega
  have hk : 3584 + y2.val % 64 < 3656 := by omega
  refine (indexKeyBlock_at m c t (ix3 0 y1 y2)).trans (Eq.trans ?_ (indexKeys_at _ _ _ y2 ⟨3584 + y2.val % 64, hk⟩ rfl).symm)
  have ez := tileIdx_at m c t y1 ⟨512 + y2.val % 64, hn⟩ (⟨t.val / 16, hb⟩ : Fin 2) (⟨t.val % 16 * 512 + y1.val, hs⟩ : Fin 8192) ⟨3584 + y2.val % 64, hk⟩ rfl rfl
    (by dsimp only; omega) hR hW
  exact congrArg (fun z => if y2.val < 128 then z else z - z) ez

/-- The sixth: the scaled weights of the index, padded with zeros. -/
theorem final_indexWeights (c : Dev nD) (hR : ∀ i, IsReal (argRows m c i))
    (hW : ∀ i, IsReal ((m ((c : Thread nD τ).loc main_arg4) : FVec Ideal S1024x3656 .f32) i)) : (dats m 0 c).arrAt 12 cfg0.N = indexWeights (argProj m c) := by
  refine (dats m 0 c).arrAt_eq_of_covers 12 _ (by decide +kernel) fun t _ y => ?_
  blk_simp
  rw [after0_12]
  idx_vars y
  obtain rfl : y0 = 0 := Subsingleton.elim _ _
  have ht : t.val < 32 := t.isLt
  have hb : t.val / 16 < 2 := by omega
  have hs : t.val % 16 * 512 + y1.val < 8192 := by omega
  have e : (win0_12.blk t).view.emb (ix3 0 y1 y2) = ix3 (⟨t.val / 16, hb⟩ : Fin 2) (⟨t.val % 16 * 512 + y1.val, hs⟩ : Fin 8192) y2 := by
    blk_ext [places t]
  refine Eq.trans ?_ (congrArg (indexWeights (argProj m c)) e).symm
  refine (indexWeightBlock_at m c t y1 y2).trans (Eq.trans ?_ (indexWeights_at _ _ _ y2).symm)
  by_cases h : y2.val < 8
  · refine (dif_pos h).trans (Eq.trans ?_ (dif_pos h).symm)
    exact congrArg (fun z => z * Ideal.ofBits FTy.f32 1052050675#32)
      (tileIdx_at m c t y1 _ (⟨t.val / 16, hb⟩ : Fin 2) (⟨t.val % 16 * 512 + y1.val, hs⟩ : Fin 8192) _ rfl rfl (by dsimp only; omega) hR hW)
  · refine (dif_neg h).trans (Eq.trans ?_ (dif_neg h).symm)
    rfl

end Cert.Kernel8Ideal.AttnProj

end
-- ==== Proof.Conditioning.lean ====
/-
  The conditioning vectors (program 9): the kernel's array holds, for each layer, the gated rows times that layer's weights plus its bias.
-/
module

public import proofs.«01_k».proof.Proof.Gen.Kernel9Ideal.Value
public import proofs.«01_k».proof.Proof.Gen.Reference9Ideal.Run
public import Idealize.ShloMosaic.Lib.Pipeline.ValueKit
public import Idealize.ShloMosaic.Lib.Routing.OpsPair
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.Kernel9Ideal.Conditioning

open Cert.Kernel9Ideal Cert.Kernel9Ideal.Gen

variable (m : (ℓ : Loc nD τ sig) → Buf (Elt Ideal) ℓ)

/-- Which block each window of the kernel names at each grid point. -/
theorem places : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] :=
  (by decide +kernel : ∀ t : Fin grid0.N, _)

/-- One entry: row `r` through the gate, times column `n` of layer `l`'s weights, plus the bias of the column. -/
def entry (C : FVec Ideal S8x1024 .f32) (W : FVec Ideal S2x1024x6144 .f32) (B : FVec Ideal S2x6144 .f32) (l : Fin 2) (r : Fin 8) (n : Fin 6144) : EReal :=
  (∑ k : Fin 1024, C (ix2 r k) * Ideal.div 1 (1 + Ideal.exp (0 - C (ix2 r k))) * W (ix3 l k n)) + B (ix2 l n)

/-- The array after the run, entry by entry, from the rows the kernel is handed. -/
theorem final_entry (c : Dev nD) : (dats m 0 c).arrAt 3 cfg0.N = (fun y => entry (V m c main_v2) (m ((c : Thread nD τ).loc main_arg1))
    (m ((c : Thread nD τ).loc main_arg2)) (y 0) (y 1) (y 2) : FVec Ideal S2x8x6144 .f32) := by
  refine (dats m 0 c).arrAt_eq_of_covers 3 _ (by decide +kernel) fun t _ y => ?_
  blk_simp
  rw [after0_3]; frame_out
  pointwise [k0_pay1]
  have ht : t.val < 12 := t.isLt
  have hl : t.val / 6 < 2 := by omega
  idx_vars y
  obtain rfl : y0 = 0 := Subsingleton.elim _ _
  have hn : t.val % 6 * 1024 + y2.val < 6144 := by omega
  have e : ((View.whole main_v4).slice (win0_3.rect t)).emb (ix3 0 y1 y2) = ix3 (⟨t.val / 6, hl⟩ : Fin 2) y1 (⟨t.val % 6 * 1024 + y2.val, hn⟩ : Fin 6144) := by
    blk_ext [places t]
  rw [e]
  refine congrArg₂ (· + ·) (Finset.sum_congr rfl fun k _ => ?_) ?_
  · refine congrArg₂ (· * ·) (congrArg (fun z => z * Ideal.div 1 (1 + Ideal.exp (0 - z))) ?_) ?_
    · blk_point [iblk, places t]
    · blk_point [iblk, V, places t]
  · blk_point [iblk, V, places t]

/-- Where an update of the rows lands: an index word of zero puts it at its own index. -/
theorem lands (idx : IVec S1 32) (h : ∀ i, (idx i).toInt = 0) (a : Fin 2) (k' : Fin 1024) (r : Fin 8) (k : Fin 1024) :
    scatter_S8x1024_S1_S2x1024_01_n_0_0.resultIdx? (ix2 a k') idx = some (ix2 r k) ↔ a.val = r.val ∧ k'.val = k.val := by
  have s0 : scatter_S8x1024_S1_S2x1024_01_n_0_0.start (ix2 a k') idx 0 = 0 := by
    unfold ScatterDims.start
    split
    · exact h _
    · rfl
  have s1 : scatter_S8x1024_S1_S2x1024_01_n_0_0.start (ix2 a k') idx 1 = 0 := by
    unfold ScatterDims.start
    split
    · exact h _
    · rfl
  have w0 : scatter_S8x1024_S1_S2x1024_01_n_0_0.window (ix2 a k') 0 = a.val := rfl
  have w1 : scatter_S8x1024_S1_S2x1024_01_n_0_0.window (ix2 a k') 1 = k'.val := rfl
  refine (Routing.resultIdx?_ix2 (R := 8) (C := 1024) scatter_S8x1024_S1_S2x1024_01_n_0_0 (ix2 a k') idx r k).trans ?_
  rw [s0, s1, w0, w1]
  omega

/-- The rows put into an array at index zero: its first two rows are theirs, the others as they were. -/
theorem scattered_at (X : FVec Ideal S8x1024 .f32) (idx : IVec S1 32) (h : ∀ i, (idx i).toInt = 0) (C : FVec Ideal S2x1024 .f32) (r : Fin 8) (k : Fin 1024) :
    Host.scatter scatter_S8x1024_S1_S2x1024_01_n_0_0 (fun _ b => b) X idx C (ix2 r k)
      = if hr : r.val < 2 then C (ix2 (⟨r.val, hr⟩ : Fin 2) k) else X (ix2 r k) := by
  by_cases hr : r.val < 2
  · rw [dif_pos hr]
    refine Routing.scatter_set_hit _ X idx C _ _ (fun j hj => ?_) (ix2 (⟨r.val, hr⟩ : Fin 2) k) ((lands idx h _ _ _ _).mpr ⟨rfl, rfl⟩)
    idx_vars j
    obtain ⟨h0, h1⟩ := (lands idx h _ _ _ _).mp hj
    rw [show j0 = (⟨r.val, hr⟩ : Fin 2) from Fin.ext h0, show j1 = k from Fin.ext h1]
  · rw [dif_neg hr]
    refine Routing.scatter_set_miss _ X idx C _ fun j hj => ?_
    idx_vars j
    obtain ⟨h0, h1⟩ := (lands idx h _ _ _ _).mp hj
    omega

/-- The rows the kernel is handed: the conditioning vectors put at the top of an array of zeros. -/
theorem rowsIn (c : Dev nD) : V m c main_v2 = Host.scatter scatter_S8x1024_S1_S2x1024_01_n_0_0 (fun _ b => b)
    (broadcastInDim S8x1024 ![] bcast_S_S8x1024 (constant S_ .f32 0x00000000#32) : FVec Ideal S8x1024 .f32)
    (broadcastInDim S1 ![] bcast_S_S1 (constantI S_ 32 0#32)) (m ((c : Thread nD τ).loc main_arg0)) := by
  unfold V
  simp only [List.flatten_cons, List.flatten_nil, List.append_nil, List.cons_append, List.nil_append]
  after_results_simp

/-- The conditioning vectors over rows of zeros. -/
def padded (C : FVec Ideal Cert.Reference9Ideal.S2x1024 .f32) : FVec Ideal Cert.Reference9Ideal.S8x1024 .f32 :=
  pad Cert.Reference9Ideal.S8x1024 ![0, 0] ![6, 0] ![0, 0] C (sitofp .f32 (constantI Cert.Reference9Ideal.S_ 32 0#32))
    Cert.Reference9Ideal.Gen.pads_S2x1024_S8x1024_060_000 Cert.Reference9Ideal.Gen.h_S_

/-- One entry of them. -/
theorem padded_at (C : FVec Ideal Cert.Reference9Ideal.S2x1024 .f32) (r : Fin 8) (k : Fin 1024) :
    padded C (ix2 r k) = if hr : r.val < 2 then C (ix2 (⟨r.val, hr⟩ : Fin 2) k) else 0 := by
  by_cases hr : r.val < 2
  · rw [dif_pos hr]
    pointwise [padded]
    rw [dif_pos (by omega)]
    blk_ext
  · rw [dif_neg hr]
    pointwise [padded]
    rw [dif_neg (by omega)]
    simp [FloatOps.sitofp]

/-- The reference's result: every row through the gate, times the weights of each layer, plus the bias. -/
def result (C : FVec Ideal Cert.Reference9Ideal.S2x1024 .f32) (W : FVec Ideal Cert.Reference9Ideal.S2x1024x6144 .f32)
    (B : FVec Ideal Cert.Reference9Ideal.S2x6144 .f32) : FVec Ideal Cert.Reference9Ideal.S2x8x6144 .f32 :=
  addf (transpose Cert.Reference9Ideal.S2x8x6144 [0, 2, 1] (Host.dotGeneral Cert.Reference9Ideal.dot_S2x1024x6144_S8x1024_S2x6144x8_1_1_02_0_n_n none W
    (mulf (padded C) (Host.divf (broadcastInDim Cert.Reference9Ideal.S8x1024 ![] Cert.Reference9Ideal.Gen.bcast_S_S8x1024 (constant Cert.Reference9Ideal.S_ .f32 0x3F800000#32))
      (addf (broadcastInDim Cert.Reference9Ideal.S8x1024 ![] Cert.Reference9Ideal.Gen.bcast_S_S8x1024 (constant Cert.Reference9Ideal.S_ .f32 0x3F800000#32))
        (Host.exp (Host.negf (padded C)))))))
    Cert.Reference9Ideal.Gen.transposes_S2x6144x8_S2x8x6144_0_2_1)
    (broadcastInDim Cert.Reference9Ideal.S2x8x6144 ![0, 1, 2] Cert.Reference9Ideal.Gen.bcast_S2x1x6144_S2x8x6144_0_1_2
      (broadcastInDim Cert.Reference9Ideal.S2x1x6144 ![0, 2] Cert.Reference9Ideal.Gen.bcast_S2x6144_S2x1x6144_0_2 B))

/-- One entry of it. -/
theorem result_at (C : FVec Ideal Cert.Reference9Ideal.S2x1024 .f32) (W : FVec Ideal Cert.Reference9Ideal.S2x1024x6144 .f32)
    (B : FVec Ideal Cert.Reference9Ideal.S2x6144 .f32) (l : Fin 2) (r : Fin 8) (n : Fin 6144) :
    result C W B (ix3 l r n) = entry (padded C) W B l r n := by
  unfold result entry
  generalize padded C = P
  pointwise []
  refine congrArg (· + _) (Finset.sum_congr rfl fun k _ => ?_)
  rw [mul_comm, zero_sub]

/-- The rows the kernel is handed are the conditioning vectors over rows of zeros. -/
theorem rowsIn_padded (c : Dev nD) : V m c main_v2 = padded (m ((c : Thread nD τ).loc main_arg0)) := by
  funext i
  idx_vars i
  refine (congrFun (rowsIn m c) _).trans ((scattered_at _ _ (fun i => ?_) _ i0 i1).trans (Eq.trans ?_ (padded_at _ i0 i1).symm))
  · rfl
  · by_cases hr : i0.val < 2
    · rw [dif_pos hr, dif_pos hr]
    · rw [dif_neg hr, dif_neg hr]
      pointwise []

/-- The array after the run is the reference's. -/
theorem final (c : Dev nD) : (dats m 0 c).arrAt 3 cfg0.N
    = result (m ((c : Thread nD τ).loc main_arg0)) (m ((c : Thread nD τ).loc main_arg1)) (m ((c : Thread nD τ).loc main_arg2)) := by
  rw [final_entry m c, rowsIn_padded m c]
  funext y
  idx_vars y
  exact (result_at _ _ _ y0 y1 y2).symm

end Cert.Kernel9Ideal.Conditioning

end
-- ==== Proof.AttnProjReal.lean ====
/-
  The projection into the attention (program 8): where the arguments are real numbers, so are the rows that enter the projection.
-/
module

public import proofs.«01_k».proof.Proof.AttnProjTile
public import proofs.«01_k».proof.Proof.Gen.Pre_usable8

@[expose] public section

set_option maxRecDepth 16384

noncomputable section

open Idealize.ShloMosaic Idealize.ShloMosaic.TcCoe Idealize.SL.Sem
open Cert.RealValues

namespace Cert.Reference8Ideal.AttnProj

open Cert.Reference8Ideal Cert.Reference8Ideal.Gen

/-- A sum of squares of real numbers is a real number that is not negative. -/
theorem squares_real {ι : Type} (s : Finset ι) (f : ι → EReal) (h : ∀ i, IsReal (f i)) :
    ∃ r : ℝ, 0 ≤ r ∧ ∑ i ∈ s, f i * f i = (r : EReal) := by
  classical
  induction s using Finset.induction_on with
  | empty => exact ⟨0, le_refl 0, by simp⟩
  | insert a s ha ih =>
    obtain ⟨r, hr, e⟩ := ih
    obtain ⟨x, hx⟩ := h a
    refine ⟨x * x + r, add_nonneg (mul_self_nonneg x) hr, ?_⟩
    rw [Finset.sum_insert ha, e, hx, EReal.coe_add, EReal.coe_mul]

/-- The number the sums of squares are divided by. -/
theorem width : Ideal.ofBits .f32 1149239296#32 = ((1024 : ℝ) : EReal) := by
  simp [Ideal.ofBits, Ideal.ieee, -EReal.coe_mul]
  norm_num

/-- The number added to a mean of squares is a positive real number. -/
theorem shift_pos : ∃ r : ℝ, 0 < r ∧ Ideal.ofBits .f32 897988541#32 = (r : EReal) := by
  refine ⟨_, ?_, by simp [Ideal.ofBits, Ideal.ieee, -EReal.coe_mul]; rfl⟩
  norm_num

/-- One over the root mean square of real numbers is a real number. -/
theorem scale_real (f : Fin 1024 → EReal) (h : ∀ i, IsReal (f i)) :
    IsReal (Ideal.rsqrt (Ideal.div (∑ x, f x * f x) (Ideal.ofBits FTy.f32 1149239296#32) + Ideal.ofBits FTy.f32 897988541#32)) := by
  obtain ⟨r, hr, e⟩ := squares_real Finset.univ f h
  obtain ⟨d, hd, ed⟩ := shift_pos
  rw [e, width, ed]
  have h1 : Ideal.div (r : EReal) ((1024 : ℝ) : EReal) = ((r * (1024 : ℝ)⁻¹ : ℝ) : EReal) := by
    have hn : ((1024 : ℝ) : EReal) ≠ 0 := by
      intro h
      exact absurd (EReal.coe_eq_coe_iff.mp (h.trans EReal.coe_zero.symm)) (by norm_num)
    unfold Ideal.div
    rw [if_neg hn, EReal.coe_mul, EReal.coe_inv]
  have hp : 0 < r * (1024 : ℝ)⁻¹ + d := by positivity
  rw [h1, ← EReal.coe_add, Ideal.rsqrt_coe, if_neg (not_lt.mpr hp.le), if_neg hp.ne']
  exact isReal_coe _

/-- One entry of the rows. -/
theorem row_at (X : FVec Ideal S2x8192x1024 .f32) (N : FVec Ideal S1x1024 .f32) (SH SC : FVec Ideal S2x1x1024 .f32)
    (b : Fin 2) (s : Fin 8192) (k : Fin 1024) : rows X N SH SC (ix3 b s k) = X (ix3 b s k) *
      Ideal.rsqrt (Ideal.div (∑ x, X (ix3 b s x) * X (ix3 b s x)) (Ideal.ofBits FTy.f32 1149239296#32) + Ideal.ofBits FTy.f32 897988541#32)
      * N (ix2 0 k) * (1 + SC (ix3 b 0 k)) + SH (ix3 b 0 k) := by
  pointwise [rows]

/-- Real arguments make real rows. -/
theorem rows_real (X : FVec Ideal S2x8192x1024 .f32) (N : FVec Ideal S1x1024 .f32) (SH SC : FVec Ideal S2x1x1024 .f32)
    (hX : ∀ i, IsReal (X i)) (hN : ∀ i, IsReal (N i)) (hSH : ∀ i, IsReal (SH i)) (hSC : ∀ i, IsReal (SC i)) (i : S2x8192x1024.Idx) :
    IsReal (rows X N SH SC i) := by
  idx_vars i
  rw [row_at]
  exact ((((hX _).mul (scale_real _ fun x => hX _)).mul (hN _)).mul ((isReal_coe 1).add (hSC _))).add (hSH _)

/-- What the precondition says: every argument holds real numbers. -/
theorem reals (X : FVec Ideal S2x8192x1024 .f32) (N : FVec Ideal S1x1024 .f32) (SH SC : FVec Ideal S2x1x1024 .f32) (W : FVec Ideal S1024x3656 .f32)
    (h : (Cert.Pre_usable8.fn (F := Ideal) X N SH SC W).1 = (fun _ => 1#1) ∧ (Cert.Pre_usable8.fn (F := Ideal) X N SH SC W).2.1 = (fun _ => 1#1)
      ∧ (Cert.Pre_usable8.fn (F := Ideal) X N SH SC W).2.2.1 = (fun _ => 1#1) ∧ (Cert.Pre_usable8.fn (F := Ideal) X N SH SC W).2.2.2.1 = (fun _ => 1#1)
      ∧ (Cert.Pre_usable8.fn (F := Ideal) X N SH SC W).2.2.2.2 = (fun _ => 1#1)) :
    (∀ i, IsReal (X i)) ∧ (∀ i, IsReal (N i)) ∧ (∀ i, IsReal (SH i)) ∧ (∀ i, IsReal (SC i)) ∧ (∀ i, IsReal (W i)) := by
  obtain ⟨h0, h1, h2, h3, h4⟩ := h
  simp only [Cert.Pre_usable8.fn, Cert.Pre_usable8.fn_part1] at h0 h1 h2 h3 h4
  exact ⟨isReal_of_all X _ _ _ _ ix0 (congrFun h0 ix0), isReal_of_all N _ _ _ _ ix0 (congrFun h1 ix0),
    isReal_of_all SH _ _ _ _ ix0 (congrFun h2 ix0), isReal_of_all SC _ _ _ _ ix0 (congrFun h3 ix0), isReal_of_all W _ _ _ _ ix0 (congrFun h4 ix0)⟩

end Cert.Reference8Ideal.AttnProj

end
-- ==== Proof.lean ====
/-
The certificate's claims, assembled. For each call of the layer: every program runs to its end with its arguments unchanged
and every counter at zero; the kernel read in exact arithmetic is the kernel itself, no rewrite being asked for; and, from
equal arguments, the kernel's result in exact arithmetic equals that of the mathematics written plainly.
The work is in the modules beside: what a block computes, what the array holds, what the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_usable2
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import Idealize.ShloMosaic.Adequacy
public import Idealize.ShloMosaic.Init
public import proofs.«01_k».proof.Proof.FfnDown
public import proofs.«01_k».proof.Proof.FfnUpReference
public import proofs.«01_k».proof.Proof.ScanReferenceRun
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.SsmIn
public import proofs.«01_k».proof.Proof.AttnOut
public import proofs.«01_k».proof.Proof.SsmGlu
public import proofs.«01_k».proof.Proof.FfnDownInner
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_usable8
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.AttnProj
public import proofs.«01_k».proof.Proof.Conditioning
public import proofs.«01_k».proof.Proof.AttnProjReal

@[expose] public section

noncomputable section

namespace Cert.Proof

open Idealize.ShloMosaic Idealize.ShloMosaic.TcCoe Idealize.SL.Sem

/-- The reference of the second feed-forward product terminates with its arguments unchanged and no signal outstanding. -/
theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run (F := Ideal) m ρ)

/-- The second feed-forward product: the kernel's array is the reference's term of the same arguments. -/
theorem algebraic3 : Cert.algebraic_Kernel3Ideal_Reference3Ideal := fun m ρ m' ρ' _ hagree =>
  ⟨_, Cert.Kernel3Ideal.Value.run_blocks m ρ,
    (θ_run Cert.Reference3Ideal.defs _ _).mono (fun r h c => by
      refine ⟨(h c).1.trans ?_, (h c).2⟩
      obtain ⟨e0, e1, e2, e3, e4⟩ := hagree c
      rw [e0, e1, e2, e3, e4, Cert.Kernel3Ideal.FfnDown.final m c]) (Cert.Reference3Ideal.Value.run (F := Ideal) m' ρ')⟩

/-- The reference of the first feed-forward product terminates with its arguments unchanged and no signal outstanding. -/
theorem frame_reference2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

/-- The first feed-forward product with its convolution and gate: on real arguments the kernel's array is the reference's. -/
theorem algebraic2 : Cert.algebraic_Kernel2Ideal_Reference2Ideal_pre_usable2 := fun m ρ m' ρ' hpre hagree =>
  ⟨_, Cert.Kernel2Ideal.Value.run_blocks m ρ,
    (θ_run Cert.Reference2Ideal.defs _ _).mono (fun r h c => by
      refine ⟨(h c).1.trans ?_, (h c).2⟩
      obtain ⟨e0, e1, e2, e3⟩ := hagree c
      obtain ⟨r0, r1, r2, r3⟩ := Cert.Reference2Ideal.FfnUp.reals _ _ _ _ (hpre c)
      rw [Cert.Reference2Ideal.FfnUp.result_eq m' c, e0, e1, e2, e3, Cert.Kernel2Ideal.FfnUp.final m c]
      exact (Cert.Reference2Ideal.FfnUp.result_term _ _ _ _ r0 r1 r2 r3).symm) (Cert.Reference2Ideal.Value.run (F := Ideal) m' ρ')⟩

/-- The product that ends the first layer's feed-forward part: its reference terminates with its arguments unchanged and no signal outstanding. -/
theorem frame_reference4 : Cert.quiescent_Reference4Ideal := fun m ρ _ =>
  (θ_run Cert.Reference4Ideal.defs _ _).mono
    (fun r h => ⟨fun c => (h c).2.2, sem_eq_zero_of_no_sems (by decide) r.2⟩) (Cert.Reference4Ideal.Value.run (F := Ideal) m ρ)

/-- The product that ends the first layer's feed-forward part: the kernel's two arrays are the reference's stream and its normed stream of the same arguments. -/
theorem algebraic4 : Cert.algebraic_Kernel4Ideal_Reference4Ideal := fun m ρ m' ρ' _ hagree =>
  ⟨_, _, Cert.Kernel4Ideal.Value.run_blocks m ρ,
    (θ_run Cert.Reference4Ideal.defs _ _).mono (fun r h c => by
      obtain ⟨e0, e1, e2, e3, e4, e5, e6⟩ := hagree c
      refine ⟨(h c).1.trans ?_, (h c).2.1.trans ?_, (h c).2.2⟩
      · rw [e0, e1, e2, e3, Cert.Kernel4Ideal.FfnDown.final_stream m c]
      · rw [e0, e1, e2, e3, e4, e5, e6, Cert.Kernel4Ideal.FfnDown.final_normed m c])
      (Cert.Reference4Ideal.Value.run (F := Ideal) m' ρ')⟩

/-- The gated product after the scan: its reference terminates with its arguments unchanged and no signal outstanding. -/
theorem frame_reference5 : Cert.quiescent_Reference5Ideal := fun m ρ _ =>
  (θ_run Cert.Reference5Ideal.defs _ _).mono
    (fun r h => ⟨fun c => (h c).2.2, sem_eq_zero_of_no_sems (by decide) r.2⟩) (Cert.Reference5Ideal.Value.run (F := Ideal) m ρ)

/-- The gated product after the scan: the kernel's two arrays are the reference's stream and its normed stream of the same arguments. -/
theorem algebraic5 : Cert.algebraic_Kernel5Ideal_Reference5Ideal := fun m ρ m' ρ' _ hagree =>
  ⟨_, _, Cert.Kernel5Ideal.Value.run_blocks m ρ,
    (θ_run Cert.Reference5Ideal.defs _ _).mono (fun r h c => by
      obtain ⟨e0, e1, e2, e3, e4, e5, e6⟩ := hagree c
      refine ⟨(h c).1.trans ?_, (h c).2.1.trans ?_, (h c).2.2⟩
      · rw [e0, e1, e2, e3, Cert.Kernel5Ideal.SsmGlu.final_stream m c]
      · rw [e0, e1, e2, e3, e4, e5, e6, Cert.Kernel5Ideal.SsmGlu.final_normed m c])
      (Cert.Reference5Ideal.Value.run (F := Ideal) m' ρ')⟩

/-- The product after the attention: its reference terminates with its arguments unchanged and no signal outstanding. -/
theorem frame_reference6 : Cert.quiescent_Reference6Ideal := fun m ρ _ =>
  (θ_run Cert.Reference6Ideal.defs _ _).mono
    (fun r h => ⟨fun c => (h c).2.2, sem_eq_zero_of_no_sems (by decide) r.2⟩) (Cert.Reference6Ideal.Value.run (F := Ideal) m ρ)

/-- The product after the attention: the kernel's two arrays are the reference's stream and its normed stream of the same arguments. -/
theorem algebraic6 : Cert.algebraic_Kernel6Ideal_Reference6Ideal := fun m ρ m' ρ' _ hagree =>
  ⟨_, _, Cert.Kernel6Ideal.Value.run_blocks m ρ,
    (θ_run Cert.Reference6Ideal.defs _ _).mono (fun r h c => by
      obtain ⟨e0, e1, e2, e3, e4, e5, e6⟩ := hagree c
      refine ⟨(h c).1.trans ?_, (h c).2.1.trans ?_, (h c).2.2⟩
      · rw [e0, e1, e2, e3, Cert.Kernel6Ideal.AttnOut.final_stream m c]
      · rw [e0, e1, e2, e3, e4, e5, e6, Cert.Kernel6Ideal.AttnOut.final_normed m c])
      (Cert.Reference6Ideal.Value.run (F := Ideal) m' ρ')⟩

/-- The product that feeds the scan: its reference terminates with its arguments unchanged and no signal outstanding. -/
theorem frame_reference7 : Cert.quiescent_Reference7Ideal := fun m ρ _ =>
  (θ_run Cert.Reference7Ideal.defs _ _).mono
    (fun r h => ⟨fun c => (h c).2, sem_eq_zero_of_no_sems (by decide) r.2⟩) (Cert.Reference7Ideal.Value.run (F := Ideal) m ρ)

/-- The product that feeds the scan: the kernel's array is the reference's product of the same arguments. -/
theorem algebraic7 : Cert.algebraic_Kernel7Ideal_Reference7Ideal := fun m ρ m' ρ' _ hagree =>
  ⟨_, Cert.Kernel7Ideal.Value.run_blocks m ρ,
    (θ_run Cert.Reference7Ideal.defs _ _).mono (fun r h c => by
      refine ⟨(h c).1.trans ?_, (h c).2⟩
      obtain ⟨e0, e1⟩ := hagree c
      rw [e0, e1, Cert.Kernel7Ideal.SsmIn.final m c]) (Cert.Reference7Ideal.Value.run (F := Ideal) m' ρ')⟩

/-- The projection into the attention: its reference terminates with its arguments unchanged and no signal outstanding. -/
theorem frame_reference8 : Cert.quiescent_Reference8Ideal := fun m ρ _ =>
  (θ_run Cert.Reference8Ideal.defs _ _).mono
    (fun r h => ⟨fun c => (h c).2.2.2.2.2.2, sem_eq_zero_of_no_sems (by decide) r.2⟩) (Cert.Reference8Ideal.Value.run (F := Ideal) m ρ)

/-- The projection into the attention: on real arguments the kernel's six arrays are the reference's of the same arguments. -/
theorem algebraic8 : Cert.algebraic_Kernel8Ideal_Reference8Ideal_pre_usable8 := fun m ρ m' ρ' hpre hagree =>
  ⟨_, _, _, _, _, _, Cert.Kernel8Ideal.Value.run_blocks m ρ,
    (θ_run Cert.Reference8Ideal.defs _ _).mono (fun r h c => by
      obtain ⟨e0, e1, e2, e3, e4⟩ := hagree c
      obtain ⟨hX, hN, hSH, hSC, hW⟩ := Cert.Reference8Ideal.AttnProj.reals _ _ _ _ _ (hpre c)
      have hR := Cert.Reference8Ideal.AttnProj.rows_real _ _ _ _ hX hN hSH hSC
      refine ⟨(h c).1.trans ?_, (h c).2.1.trans ?_, (h c).2.2.1.trans ?_, (h c).2.2.2.1.trans ?_, (h c).2.2.2.2.1.trans ?_,
        (h c).2.2.2.2.2.1.trans ?_, (h c).2.2.2.2.2.2⟩
      · rw [e0, e1, e2, e3, e4]
        exact (Cert.Kernel8Ideal.AttnProj.final_queries m c).symm
      · unfold Cert.Reference8Ideal.Value.res_main_v69
        rw [e0, e1, e2, e3, e4]
        exact (Cert.Kernel8Ideal.AttnProj.final_keys m c).symm
      · rw [e0, e1, e2, e3, e4]
        exact (Cert.Kernel8Ideal.AttnProj.final_values m c).symm
      · unfold Cert.Reference8Ideal.Value.res_main_v73
        rw [e0, e1, e2, e3, e4]
        exact (Cert.Kernel8Ideal.AttnProj.final_indexQueries m c hR hW).symm
      · unfold Cert.Reference8Ideal.Value.res_main_v74
        rw [e0, e1, e2, e3, e4]
        exact (Cert.Kernel8Ideal.AttnProj.final_indexKeys m c hR hW).symm
      · rw [e0, e1, e2, e3, e4]
        exact (Cert.Kernel8Ideal.AttnProj.final_indexWeights m c hR hW).symm) (Cert.Reference8Ideal.Value.run (F := Ideal) m' ρ')⟩

/-- The conditioning vectors: the reference terminates with its arguments unchanged and no signal outstanding. -/
theorem frame_reference9 : Cert.quiescent_Reference9Ideal := fun m ρ _ =>
  (θ_run Cert.Reference9Ideal.defs _ _).mono
    (fun r h => ⟨fun c => (h c).2, sem_eq_zero_of_no_sems (by decide) r.2⟩) (Cert.Reference9Ideal.Value.run (F := Ideal) m ρ)

/-- The conditioning vectors: the kernel's array is the reference's of the same arguments. -/
theorem algebraic9 : Cert.algebraic_Kernel9Ideal_Reference9Ideal := fun m ρ m' ρ' _ hagree =>
  ⟨_, Cert.Kernel9Ideal.Value.run_blocks m ρ,
    (θ_run Cert.Reference9Ideal.defs _ _).mono (fun r h c => by
      refine ⟨(h c).1.trans ?_, (h c).2⟩
      obtain ⟨e0, e1, e2⟩ := hagree c
      rw [e0, e1, e2]
      exact (Cert.Kernel9Ideal.Conditioning.final m c).symm) (Cert.Reference9Ideal.Value.run (F := Ideal) m' ρ')⟩

/-- All the claims together. -/
theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts,
    Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts,
    Cert.Kernel7Ideal.Gen.facts, Cert.Reference7Ideal.Gen.facts, Cert.Kernel8.Gen.facts,
    Cert.Kernel8Ideal.Gen.facts, Cert.Reference8Ideal.Gen.facts, Cert.Kernel9.Gen.facts,
    Cert.Kernel9Ideal.Gen.facts, Cert.Reference9Ideal.Gen.facts, Cert.Pre_usable2.Gen.facts, Cert.Pre_usable8.Gen.facts,
  fun m ρ _ => Cert.Kernel.Gen.frame m ρ,
  fun m ρ _ => Cert.KernelIdeal.Gen.frame m ρ,
  Cert.ReferenceIdeal.Scan.frame,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  fun m ρ _ => Cert.Kernel8Ideal.Gen.frame m ρ,
  frame_reference8,
  fun m ρ _ => frame_reference8 m ρ trivial,
  fun m ρ _ => Cert.Kernel9.Gen.frame m ρ,
  fun m ρ _ => Cert.Kernel9Ideal.Gen.frame m ρ,
  frame_reference9,
  trivial, trivial, algebraic2, trivial, algebraic3, trivial, algebraic4, trivial, algebraic5, trivial, algebraic6, trivial,
  algebraic7, trivial, algebraic8, trivial,
  algebraic9⟩

end Cert.Proof

end

end
